-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_v127) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_InProj_InProjIdeal : Prop :=
  True

def algebraic_InProjIdeal_InRefIdeal [hInProjIdeal : Cert.InProjIdeal.Facts] [hInRefIdeal : Cert.InRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InRefIdeal.nD Cert.InRefIdeal.τ Cert.InRefIdeal.sig) → Buf (Elt Ideal) ℓ) (g' : Dev Cert.InRefIdeal.nD → PrngReg), Pre_InProjIdeal m →
    (∀ c : Dev Cert.InProjIdeal.nD,
      m' ((c.tc : Thread Cert.InRefIdeal.nD Cert.InRefIdeal.τ).loc Cert.InRefIdeal.main_arg0) = m ((c.tc : Thread Cert.InProjIdeal.nD Cert.InProjIdeal.τ).loc Cert.InProjIdeal.main_arg0)
      ∧ m' ((c.tc : Thread Cert.InRefIdeal.nD Cert.InRefIdeal.τ).loc Cert.InRefIdeal.main_arg1) = m ((c.tc : Thread Cert.InProjIdeal.nD Cert.InProjIdeal.τ).loc Cert.InProjIdeal.main_arg1)
      ∧ m' ((c.tc : Thread Cert.InRefIdeal.nD Cert.InRefIdeal.τ).loc Cert.InRefIdeal.main_arg2) = m ((c.tc : Thread Cert.InProjIdeal.nD Cert.InProjIdeal.τ).loc Cert.InProjIdeal.main_arg2)
      ∧ m' ((c.tc : Thread Cert.InRefIdeal.nD Cert.InRefIdeal.τ).loc Cert.InRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v6_0)) (v1 : (c : Dev Cert.InProjIdeal.nD) → Buf (Elt Ideal) ((c.tc : Thread Cert.InProjIdeal.nD Cert.InProjIdeal.τ).loc Cert.InProjIdeal.main_v6_1)) (v2 : (c : Dev Cert.InProjIdeal.nD) → Buf (Elt Ideal) ((c.tc : Thread Cert.InProjIdeal.nD Cert.InProjIdeal.τ).loc Cert.InProjIdeal.main_v6_2)) (v3 : (c : Dev Cert.InProjIdeal.nD) → Buf (Elt Ideal) ((c.tc : Thread Cert.InProjIdeal.nD Cert.InProjIdeal.τ).loc Cert.InProjIdeal.main_v6_3)) (v4 : (c : Dev Cert.InProjIdeal.nD) → Buf (Elt Ideal) ((c.tc : Thread Cert.InProjIdeal.nD Cert.InProjIdeal.τ).loc Cert.InProjIdeal.main_v6_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v6_0) = v0 c
          ∧ r.2.mem ((c.tc : Thread Cert.InProjIdeal.nD Cert.InProjIdeal.τ).loc Cert.InProjIdeal.main_v6_1) = v1 c
          ∧ r.2.mem ((c.tc : Thread Cert.InProjIdeal.nD Cert.InProjIdeal.τ).loc Cert.InProjIdeal.main_v6_2) = v2 c
          ∧ r.2.mem ((c.tc : Thread Cert.InProjIdeal.nD Cert.InProjIdeal.τ).loc Cert.InProjIdeal.main_v6_3) = v3 c
          ∧ r.2.mem ((c.tc : Thread Cert.InProjIdeal.nD Cert.InProjIdeal.τ).loc Cert.InProjIdeal.main_v6_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v35) = v0 c
          ∧ r.2.mem ((c.tc : Thread Cert.InRefIdeal.nD Cert.InRefIdeal.τ).loc Cert.InRefIdeal.main_v37) = v1 c
          ∧ r.2.mem ((c.tc : Thread Cert.InRefIdeal.nD Cert.InRefIdeal.τ).loc Cert.InRefIdeal.main_v39) = v2 c
          ∧ r.2.mem ((c.tc : Thread Cert.InRefIdeal.nD Cert.InRefIdeal.τ).loc Cert.InRefIdeal.main_v41) = v3 c
          ∧ r.2.mem ((c.tc : Thread Cert.InRefIdeal.nD Cert.InRefIdeal.τ).loc Cert.InRefIdeal.main_v43) = v4 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3))

def preserves_OutProj_OutProjIdeal : Prop :=
  True

def algebraic_OutProjIdeal_OutRefIdeal [hOutProjIdeal : Cert.OutProjIdeal.Facts] [hOutRefIdeal : Cert.OutRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutProjIdeal m →
    (∀ c : Dev Cert.OutProjIdeal.nD,
      m' ((c.tc : Thread Cert.OutRefIdeal.nD Cert.OutRefIdeal.τ).loc Cert.OutRefIdeal.main_arg0) = m ((c.tc : Thread Cert.OutProjIdeal.nD Cert.OutProjIdeal.τ).loc Cert.OutProjIdeal.main_arg0)
      ∧ m' ((c.tc : Thread Cert.OutRefIdeal.nD Cert.OutRefIdeal.τ).loc Cert.OutRefIdeal.main_arg1) = m ((c.tc : Thread Cert.OutProjIdeal.nD Cert.OutProjIdeal.τ).loc Cert.OutProjIdeal.main_arg1)
      ∧ m' ((c.tc : Thread Cert.OutRefIdeal.nD Cert.OutRefIdeal.τ).loc Cert.OutRefIdeal.main_arg2) = m ((c.tc : Thread Cert.OutProjIdeal.nD Cert.OutProjIdeal.τ).loc Cert.OutProjIdeal.main_arg2)
      ∧ m' ((c.tc : Thread Cert.OutRefIdeal.nD Cert.OutRefIdeal.τ).loc Cert.OutRefIdeal.main_arg3) = m ((c.tc : Thread Cert.OutProjIdeal.nD Cert.OutProjIdeal.τ).loc Cert.OutProjIdeal.main_arg3)
      ∧ m' ((c.tc : Thread Cert.OutRefIdeal.nD Cert.OutRefIdeal.τ).loc Cert.OutRefIdeal.main_arg4) = m ((c.tc : Thread Cert.OutProjIdeal.nD Cert.OutProjIdeal.τ).loc Cert.OutProjIdeal.main_arg4)
      ∧ m' ((c.tc : Thread Cert.OutRefIdeal.nD Cert.OutRefIdeal.τ).loc Cert.OutRefIdeal.main_arg5) = m ((c.tc : Thread Cert.OutProjIdeal.nD Cert.OutProjIdeal.τ).loc Cert.OutProjIdeal.main_arg5)
      ∧ m' ((c.tc : Thread Cert.OutRefIdeal.nD Cert.OutRefIdeal.τ).loc Cert.OutRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v6_0)) (v1 : (c : Dev Cert.OutProjIdeal.nD) → Buf (Elt Ideal) ((c.tc : Thread Cert.OutProjIdeal.nD Cert.OutProjIdeal.τ).loc Cert.OutProjIdeal.main_v6_1)) (v2 : (c : Dev Cert.OutProjIdeal.nD) → Buf (Elt Ideal) ((c.tc : Thread Cert.OutProjIdeal.nD Cert.OutProjIdeal.τ).loc Cert.OutProjIdeal.main_v6_2)) (v3 : (c : Dev Cert.OutProjIdeal.nD) → Buf (Elt Ideal) ((c.tc : Thread Cert.OutProjIdeal.nD Cert.OutProjIdeal.τ).loc Cert.OutProjIdeal.main_v6_3)) (v4 : (c : Dev Cert.OutProjIdeal.nD) → Buf (Elt Ideal) ((c.tc : Thread Cert.OutProjIdeal.nD Cert.OutProjIdeal.τ).loc Cert.OutProjIdeal.main_v6_4)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v6_0) = v0 c
          ∧ r.2.mem ((c.tc : Thread Cert.OutProjIdeal.nD Cert.OutProjIdeal.τ).loc Cert.OutProjIdeal.main_v6_1) = v1 c
          ∧ r.2.mem ((c.tc : Thread Cert.OutProjIdeal.nD Cert.OutProjIdeal.τ).loc Cert.OutProjIdeal.main_v6_2) = v2 c
          ∧ r.2.mem ((c.tc : Thread Cert.OutProjIdeal.nD Cert.OutProjIdeal.τ).loc Cert.OutProjIdeal.main_v6_3) = v3 c
          ∧ r.2.mem ((c.tc : Thread Cert.OutProjIdeal.nD Cert.OutProjIdeal.τ).loc Cert.OutProjIdeal.main_v6_4) = v4 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v36) = v0 c
          ∧ r.2.mem ((c.tc : Thread Cert.OutRefIdeal.nD Cert.OutRefIdeal.τ).loc Cert.OutRefIdeal.main_v38) = v1 c
          ∧ r.2.mem ((c.tc : Thread Cert.OutRefIdeal.nD Cert.OutRefIdeal.τ).loc Cert.OutRefIdeal.main_v39) = v2 c
          ∧ r.2.mem ((c.tc : Thread Cert.OutRefIdeal.nD Cert.OutRefIdeal.τ).loc Cert.OutRefIdeal.main_v40) = v3 c
          ∧ r.2.mem ((c.tc : Thread Cert.OutRefIdeal.nD Cert.OutRefIdeal.τ).loc Cert.OutRefIdeal.main_v41) = v4 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v14) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInRefIdeal : Cert.InRefIdeal.Facts) (hOutProj : Cert.OutProj.Facts) (hOutProjIdeal : Cert.OutProjIdeal.Facts) (hOutRefIdeal : Cert.OutRefIdeal.Facts) (hFinal : Cert.Final.Facts) (hFinalIdeal : Cert.FinalIdeal.Facts) (hFinalRefIdeal : Cert.FinalRefIdeal.Facts),
    quiescent_Kernel (hKernel := hKernel)
    ∧ quiescent_KernelIdeal (hKernelIdeal := hKernelIdeal)
    ∧ quiescent_ReferenceIdeal (hReferenceIdeal := hReferenceIdeal)
    ∧ quiescent_InProj (hInProj := hInProj)
    ∧ quiescent_InProjIdeal (hInProjIdeal := hInProjIdeal)
    ∧ quiescent_InRefIdeal (hInRefIdeal := hInRefIdeal)
    ∧ quiescent_OutProj (hOutProj := hOutProj)
    ∧ quiescent_OutProjIdeal (hOutProjIdeal := hOutProjIdeal)
    ∧ quiescent_OutRefIdeal (hOutRefIdeal := hOutRefIdeal)
    ∧ quiescent_Final (hFinal := hFinal)
    ∧ quiescent_FinalIdeal (hFinalIdeal := hFinalIdeal)
    ∧ quiescent_FinalRefIdeal (hFinalRefIdeal := hFinalRefIdeal)
    ∧ preserves_Kernel_KernelIdeal
    ∧ algebraic_KernelIdeal_ReferenceIdeal (hKernelIdeal := hKernelIdeal) (hReferenceIdeal := hReferenceIdeal)
    ∧ preserves_InProj_InProjIdeal
    ∧ algebraic_InProjIdeal_InRefIdeal (hInProjIdeal := hInProjIdeal) (hInRefIdeal := hInRefIdeal)
    ∧ preserves_OutProj_OutProjIdeal
    ∧ algebraic_OutProjIdeal_OutRefIdeal (hOutProjIdeal := hOutProjIdeal) (hOutRefIdeal := hOutRefIdeal)
    ∧ preserves_Final_FinalIdeal
    ∧ algebraic_FinalIdeal_FinalRefIdeal (hFinalIdeal := hFinalIdeal) (hFinalRefIdeal := hFinalRefIdeal)
-- ==== Kernel.lean ====
abbrev S8192x1024 : Shape := ⟨2, ![8192, 1024]⟩
abbrev S8192x256 : Shape := ⟨2, ![8192, 256]⟩
abbrev S1x8x128 : Shape := ⟨3, ![1, 8, 128]⟩
abbrev S1x8x128x128 : Shape := ⟨4, ![1, 8, 128, 128]⟩
abbrev S1x16 : Shape := ⟨2, ![1, 16]⟩
abbrev S1x2048x2048 : Shape := ⟨3, ![1, 2048, 2048]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S16 : Shape := ⟨1, ![16]⟩
abbrev S1x1024 : Shape := ⟨2, ![1, 1024]⟩
abbrev S8x128x128 : Shape := ⟨3, ![8, 128, 128]⟩
abbrev S2048x2048 : Shape := ⟨2, ![2048, 2048]⟩
abbrev S8192x2048 : Shape := ⟨2, ![8192, 2048]⟩
abbrev S128x256 : Shape := ⟨2, ![128, 256]⟩
abbrev S32x2048 : Shape := ⟨2, ![32, 2048]⟩
abbrev S128x2048 : Shape := ⟨2, ![128, 2048]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S1x128x128 : Shape := ⟨3, ![1, 128, 128]⟩
abbrev S128x64 : Shape := ⟨2, ![128, 64]⟩
abbrev S256x64 : Shape := ⟨2, ![256, 64]⟩
abbrev S1 : Shape := ⟨1, ![1]⟩

abbrev nBuf : Space → Nat
  | .hbm => 26
  | .vmem => 24
  | .smem => 1
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x256, .bf16⟩
  | .hbm, ⟨4, _⟩ => ⟨S1x8x128, .f32⟩
  | .hbm, ⟨5, _⟩ => ⟨S1x8x128, .f32⟩
  | .hbm, ⟨6, _⟩ => ⟨S1x8x128x128, .f32⟩
  | .hbm, ⟨7, _⟩ => ⟨S1x8x128, .f32⟩
  | .hbm, ⟨8, _⟩ => ⟨S1x16, .f32⟩
  | .hbm, ⟨9, _⟩ => ⟨S1x2048x2048, .f32⟩
  | .hbm, ⟨10, _⟩ => ⟨S1x2048x2048, .f32⟩
  | .hbm, ⟨11, _⟩ => ⟨S8x128, .f32⟩
  | .hbm, ⟨12, _⟩ => ⟨S128x8, .f32⟩
  | .hbm, ⟨13, _⟩ => ⟨S128x8x128, .f32⟩
  | .hbm, ⟨14, _⟩ => ⟨S128x1024, .f32⟩
  | .hbm, ⟨15, _⟩ => ⟨S16, .f32⟩
  | .hbm, ⟨16, _⟩ => ⟨S8x128, .f32⟩
  | .hbm, ⟨17, _⟩ => ⟨S1x1024, .f32⟩
  | .hbm, ⟨18, _⟩ => ⟨S8x128, .f32⟩
  | .hbm, ⟨19, _⟩ => ⟨S1x1024, .f32⟩
  | .hbm, ⟨20, _⟩ => ⟨S8x128x128, .f32⟩
  | .hbm, ⟨21, _⟩ => ⟨S2048x2048, .f32⟩
  | .hbm, ⟨22, _⟩ => ⟨S2048x2048, .f32⟩
  | .hbm, ⟨23, _⟩ => ⟨S8192x2048, .bf16⟩
  | .hbm, ⟨24, _⟩ => ⟨S2048x2048, .bf16⟩
  | .hbm, ⟨25, _⟩ => ⟨S2048x2048, .bf16⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S1x1024, .f32⟩
  | .local _ .vmem, ⟨11, _⟩ => ⟨S1x1024, .f32⟩
  | .local _ .vmem, ⟨12, _⟩ => ⟨S8x128x128, .f32⟩
  | .local _ .vmem, ⟨13, _⟩ => ⟨S128x1024, .f32⟩
  | .local _ .vmem, ⟨14, _⟩ => ⟨S32x2048, .f32⟩
  | .local _ .vmem, ⟨15, _⟩ => ⟨S32x2048, .f32⟩
  | .local _ .vmem, ⟨16, _⟩ => ⟨S32x2048, .f32⟩
  | .local _ .vmem, ⟨17, _⟩ => ⟨S32x2048, .f32⟩
  | .local _ .vmem, ⟨18, _⟩ => ⟨S128x2048, .bf16⟩
  | .local _ .vmem, ⟨19, _⟩ => ⟨S128x2048, .bf16⟩
  | .local _ .vmem, ⟨20, _⟩ => ⟨S32x2048, .bf16⟩
  | .local _ .vmem, ⟨21, _⟩ => ⟨S32x2048, .bf16⟩
  | .local _ .vmem, ⟨22, _⟩ => ⟨S32x2048, .bf16⟩
  | .local _ .vmem, ⟨23, _⟩ => ⟨S32x2048, .bf16⟩
  | .local _ .smem, ⟨0, _⟩ => ⟨S16, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![4, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S32x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S32x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S8192x1024 : Shape := ⟨2, ![8192, 1024]⟩
abbrev S8192x256 : Shape := ⟨2, ![8192, 256]⟩
abbrev S1x8x128 : Shape := ⟨3, ![1, 8, 128]⟩
abbrev S1x8x128x128 : Shape := ⟨4, ![1, 8, 128, 128]⟩
abbrev S1x16 : Shape := ⟨2, ![1, 16]⟩
abbrev S1x2048x2048 : Shape := ⟨3, ![1, 2048, 2048]⟩
abbrev S4x2048x1024 : Shape := ⟨3, ![4, 2048, 1024]⟩
abbrev S4x2048x256 : Shape := ⟨3, ![4, 2048, 256]⟩
abbrev S8x128 : Shape := ⟨2, ![8, 128]⟩
abbrev S8x128x128 : Shape := ⟨3, ![8, 128, 128]⟩
abbrev S4x16x128x8x128 : Shape := ⟨5, ![4, 16, 128, 8, 128]⟩
abbrev S_ : Shape := ⟨0, ![]⟩
abbrev S4x16x128x8 : Shape := ⟨4, ![4, 16, 128, 8]⟩
abbrev S4x16x128x8x1 : Shape := ⟨5, ![4, 16, 128, 8, 1]⟩
abbrev S1x1x1x8x128 : Shape := ⟨5, ![1, 1, 1, 8, 128]⟩
abbrev S128x128 : Shape := ⟨2, ![128, 128]⟩
abbrev S1x128x128 : Shape := ⟨3, ![1, 128, 128]⟩
abbrev S8x4x16x128x128 : Shape := ⟨5, ![8, 4, 16, 128, 128]⟩
abbrev S128x8 : Shape := ⟨2, ![128, 8]⟩
abbrev S1x1x128x8x1 : Shape := ⟨5, ![1, 1, 128, 8, 1]⟩
abbrev S4x2048x16x64 : Shape := ⟨4, ![4, 2048, 16, 64]⟩
abbrev S4x2048x128 : Shape := ⟨3, ![4, 2048, 128]⟩
abbrev S4x2048x2x64 : Shape := ⟨4, ![4, 2048, 2, 64]⟩
abbrev S16 : Shape := ⟨1, ![16]⟩
abbrev S4x16x128x2x8x64 : Shape := ⟨6, ![4, 16, 128, 2, 8, 64]⟩
abbrev S4x16x128x2x64 : Shape := ⟨5, ![4, 16, 128, 2, 64]⟩
abbrev S4x15x128x2x64 : Shape := ⟨5, ![4, 15, 128, 2, 64]⟩
abbrev S4x16x256x2x64 : Shape := ⟨5, ![4, 16, 256, 2, 64]⟩
abbrev S4x16x2x256x128x8 : Shape := ⟨6, ![4, 16, 2, 256, 128, 8]⟩
abbrev S4x16x2x8x128x256 : Shape := ⟨6, ![4, 16, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x128x256 : Shape := ⟨3, ![1, 128, 256]⟩
abbrev S1x1x256 : Shape := ⟨3, ![1, 1, 256]⟩
abbrev S16x1x256 : Shape := ⟨3, ![16, 1, 256]⟩
abbrev S16x128x256 : Shape := ⟨3, ![16, 128, 256]⟩
abbrev S1x16x1x1x128x256 : Shape := ⟨6, ![1, 16, 1, 1, 128, 256]⟩
abbrev S2x8 : Shape := ⟨2, ![2, 8]⟩
abbrev S1x1x2x8x1x1 : Shape := ⟨6, ![1, 1, 2, 8, 1, 1]⟩
abbrev S4x16x2x8x128 : Shape := ⟨5, ![4, 16, 2, 8, 128]⟩
abbrev S4x16x2x8x128x1 : Shape := ⟨6, ![4, 16, 2, 8, 128, 1]⟩
abbrev S4x16x2x64x8x128 : Shape := ⟨6, ![4, 16, 2, 64, 8, 128]⟩
abbrev S4x2048x2048 : Shape := ⟨3, ![4, 2048, 2048]⟩
abbrev S8192x2048 : Shape := ⟨2, ![8192, 2048]⟩
abbrev S2048x2048 : Shape := ⟨2, ![2048, 2048]⟩

abbrev nBuf : Space → Nat
  | .hbm => 170
  | .vmem => 0
  | .smem => 0
  | _ => 0

abbrev hbmTy0_0 (i : Nat) : BufTy := match i % 128 with
  | 0 => ⟨S8192x1024, .bf16⟩
  | 1 => ⟨S8192x1024, .bf16⟩
  | 2 => ⟨S8192x1024, .bf16⟩
  | 3 => ⟨S8192x256, .bf16⟩
  | 4 => ⟨S1x8x128, .f32⟩
  | 5 => ⟨S1x8x128, .f32⟩
  | 6 => ⟨S1x8x128x128, .f32⟩
  | 7 => ⟨S1x8x128, .f32⟩
  | 8 => ⟨S1x16, .f32⟩
  | 9 => ⟨S1x2048x2048, .f32⟩
  | 10 => ⟨S1x2048x2048, .f32⟩
  | 11 => ⟨S8192x1024, .f32⟩
  | 12 => ⟨S4x2048x1024, .f32⟩
  | 13 => ⟨S8192x1024, .f32⟩
  | 14 => ⟨S4x2048x1024, .f32⟩
  | 15 => ⟨S8192x1024, .f32⟩
  | 16 => ⟨S4x2048x1024, .f32⟩
  | 17 => ⟨S8192x256, .f32⟩
  | 18 => ⟨S4x2048x256, .f32⟩
  | 19 => ⟨S8x128, .f32⟩
  | 20 => ⟨S8x128, .f32⟩
  | 21 => ⟨S8x128x128, .f32⟩
  | 22 => ⟨S8x128, .f32⟩
  | 23 => ⟨S4x16x128x8x128, .f32⟩
  | 24 => ⟨S4x16x128x8x128, .f32⟩
  | 25 => ⟨S_, .f32⟩
  | 26 => ⟨S4x16x128x8, .f32⟩
  | 27 => ⟨S4x16x128x8x1, .f32⟩
  | 28 => ⟨S_, .f32⟩
  | 29 => ⟨S4x16x128x8x1, .f32⟩
  | 30 => ⟨S4x16x128x8x1, .f32⟩
  | 31 => ⟨S4x16x128x8x128, .f32⟩
  | 32 => ⟨S4x16x128x8x128, .f32⟩
  | 33 => ⟨S4x16x128x8x128, .f32⟩
  | 34 => ⟨S_, .f32⟩
  | 35 => ⟨S4x16x128x8, .f32⟩
  | 36 => ⟨S4x16x128x8x1, .f32⟩
  | 37 => ⟨S_, .f32⟩
  | 38 => ⟨S4x16x128x8x1, .f32⟩
  | 39 => ⟨S4x16x128x8x1, .f32⟩
  | 40 => ⟨S4x16x128x8x128, .f32⟩
  | 41 => ⟨S4x16x128x8x128, .f32⟩
  | 42 => ⟨S_, .f32⟩
  | 43 => ⟨S4x16x128x8x1, .f32⟩
  | 44 => ⟨S4x16x128x8x1, .f32⟩
  | 45 => ⟨S4x16x128x8x1, .f32⟩
  | 46 => ⟨S4x16x128x8x128, .f32⟩
  | 47 => ⟨S4x16x128x8x128, .f32⟩
  | 48 => ⟨S1x1x1x8x128, .f32⟩
  | 49 => ⟨S4x16x128x8x128, .f32⟩
  | 50 => ⟨S4x16x128x8x128, .f32⟩
  | 51 => ⟨S1x1x1x8x128, .f32⟩
  | 52 => ⟨S4x16x128x8x128, .f32⟩
  | 53 => ⟨S4x16x128x8x128, .f32⟩
  | 54 => ⟨S_, .i1⟩
  | 55 => ⟨S128x128, .i1⟩
  | 56 => ⟨S128x128, .i32⟩
  | 57 => ⟨S_, .i32⟩
  | 58 => ⟨S128x128, .i32⟩
  | 59 => ⟨S128x128, .i32⟩
  | 60 => ⟨S128x128, .i32⟩
  | 61 => ⟨S128x128, .i1⟩
  | 62 => ⟨S_, .i1⟩
  | 63 => ⟨S128x128, .i1⟩
  | 64 => ⟨S128x128, .i1⟩
  | 65 => ⟨S1x128x128, .i1⟩
  | 66 => ⟨S_, .f32⟩
  | 67 => ⟨S8x128x128, .f32⟩
  | 68 => ⟨S8x128x128, .i1⟩
  | 69 => ⟨S8x128x128, .f32⟩
  | 70 => ⟨S8x4x16x128x128, .f32⟩
  | 71 => ⟨S4x16x128x8x128, .f32⟩
  | 72 => ⟨S128x8, .f32⟩
  | 73 => ⟨S1x1x128x8x1, .f32⟩
  | 74 => ⟨S4x16x128x8x128, .f32⟩
  | 75 => ⟨S4x16x128x8x128, .f32⟩
  | 76 => ⟨S4x16x128x8x128, .f32⟩
  | 77 => ⟨S4x2048x1024, .f32⟩
  | 78 => ⟨S4x2048x16x64, .f32⟩
  | 79 => ⟨S4x2048x128, .f32⟩
  | 80 => ⟨S4x2048x2x64, .f32⟩
  | 81 => ⟨S4x2048x128, .f32⟩
  | 82 => ⟨S4x2048x2x64, .f32⟩
  | 83 => ⟨S16, .f32⟩
  | 84 => ⟨S4x16x128x2x8x64, .f32⟩
  | 85 => ⟨S4x16x128x2x64, .f32⟩
  | 86 => ⟨S4x16x128x2x64, .f32⟩
  | 87 => ⟨S4x15x128x2x64, .f32⟩
  | 88 => ⟨S_, .i32⟩
  | 89 => ⟨S_, .f32⟩
  | 90 => ⟨S4x16x128x2x64, .f32⟩
  | 91 => ⟨S4x16x256x2x64, .f32⟩
  | 92 => ⟨S4x15x128x2x64, .f32⟩
  | 93 => ⟨S_, .i32⟩
  | 94 => ⟨S_, .f32⟩
  | 95 => ⟨S4x16x128x2x64, .f32⟩
  | 96 => ⟨S4x16x256x2x64, .f32⟩
  | 97 => ⟨S4x16x2x256x128x8, .f32⟩
  | 98 => ⟨S4x16x2x8x128x256, .f32⟩
  | 99 => ⟨S_, .f32⟩
  | 100 => ⟨S4x16x2x8x128x256, .f32⟩
  | 101 => ⟨S4x16x2x8x128x256, .f32⟩
  | 102 => ⟨S128, .i32⟩
  | 103 => ⟨S128x1, .i32⟩
  | 104 => ⟨S256, .i32⟩
  | 105 => ⟨S1x256, .i32⟩
  | 106 => ⟨S_, .i32⟩
  | 107 => ⟨S128x1, .i32⟩
  | 108 => ⟨S128x1, .i32⟩
  | 109 => ⟨S128x256, .i32⟩
  | 110 => ⟨S128x256, .i32⟩
  | 111 => ⟨S128x256, .i1⟩
  | 112 => ⟨S_, .i32⟩
  | 113 => ⟨S128x1, .i32⟩
  | 114 => ⟨S128x1, .i32⟩
  | 115 => ⟨S128x256, .i32⟩
  | 116 => ⟨S128x256, .i32⟩
  | 117 => ⟨S128x256, .i1⟩
  | 118 => ⟨S128x256, .i1⟩
  | 119 => ⟨S16, .i32⟩
  | 120 => ⟨S16x1x1, .i32⟩
  | 121 => ⟨S1x128x256, .i1⟩
  | 122 => ⟨S_, .i32⟩
  | 123 => ⟨S16x1x1, .i32⟩
  | 124 => ⟨S16x1x1, .i1⟩
  | 125 => ⟨S_, .i32⟩
  | 126 => ⟨S1x256, .i32⟩
  | 127 => ⟨S1x256, .i1⟩
  | _ => ⟨S8192x1024, .bf16⟩

abbrev hbmTy0_1 (i : Nat) : BufTy := match i % 128 with
  | 0 => ⟨S1x1x256, .i1⟩
  | 1 => ⟨S16x1x256, .i1⟩
  | 2 => ⟨S16x1x256, .i1⟩
  | 3 => ⟨S16x1x256, .i1⟩
  | 4 => ⟨S16x128x256, .i1⟩
  | 5 => ⟨S16x128x256, .i1⟩
  | 6 => ⟨S16x128x256, .i1⟩
  | 7 => ⟨S1x16x1x1x128x256, .i1⟩
  | 8 => ⟨S_, .f32⟩
  | 9 => ⟨S_, .f32⟩
  | 10 => ⟨S4x16x2x8x128x256, .i1⟩
  | 11 => ⟨S4x16x2x8x128x256, .f32⟩
  | 12 => ⟨S4x16x2x8x128x256, .f32⟩
  | 13 => ⟨S2x8, .f32⟩
  | 14 => ⟨S1x1x2x8x1x1, .f32⟩
  | 15 => ⟨S_, .f32⟩
  | 16 => ⟨S4x16x2x8x128, .f32⟩
  | 17 => ⟨S4x16x2x8x128x1, .f32⟩
  | 18 => ⟨S4x16x2x8x128x1, .f32⟩
  | 19 => ⟨S4x16x2x8x128x1, .f32⟩
  | 20 => ⟨S4x16x2x8x128x256, .f32⟩
  | 21 => ⟨S4x16x2x8x128x256, .f32⟩
  | 22 => ⟨S4x16x2x8x128x256, .f32⟩
  | 23 => ⟨S_, .f32⟩
  | 24 => ⟨S4x16x2x8x128, .f32⟩
  | 25 => ⟨S4x16x2x8x128x1, .f32⟩
  | 26 => ⟨S4x16x2x8x128x1, .f32⟩
  | 27 => ⟨S4x16x2x8x128x1, .f32⟩
  | 28 => ⟨S4x16x2x8x128x1, .f32⟩
  | 29 => ⟨S4x16x2x8x128x1, .f32⟩
  | 30 => ⟨S4x16x2x8x128x256, .f32⟩
  | 31 => ⟨S4x16x2x8x128x256, .f32⟩
  | 32 => ⟨S4x16x2x64x8x128, .f32⟩
  | 33 => ⟨S4x16x128x2x8x64, .f32⟩
  | 34 => ⟨S4x2048x1024, .f32⟩
  | 35 => ⟨S4x2048x2048, .f32⟩
  | 36 => ⟨S8192x2048, .f32⟩
  | 37 => ⟨S8192x2048, .bf16⟩
  | 38 => ⟨S2048x2048, .f32⟩
  | 39 => ⟨S2048x2048, .bf16⟩
  | 40 => ⟨S2048x2048, .f32⟩
  | 41 => ⟨S2048x2048, .bf16⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c : Ref sig .tc := ⟨.hbm, 54, rfl⟩
abbrev main_v38 : Ref sig .tc := ⟨.hbm, 55, rfl⟩
abbrev main_call0_v0 : Ref sig .tc := ⟨.hbm, 56, rfl⟩
abbrev main_call0_c : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_c_0 : Ref sig .tc := ⟨.hbm, 62, rfl⟩
abbrev main_call0_v5 : Ref sig .tc := ⟨.hbm, 63, rfl⟩
abbrev main_v39 : Ref sig .tc := ⟨.hbm, 64, rfl⟩
abbrev main_v40 : Ref sig .tc := ⟨.hbm, 65, rfl⟩
abbrev main_cst_4 : Ref sig .tc := ⟨.hbm, 66, rfl⟩
abbrev main_v41 : Ref sig .tc := ⟨.hbm, 67, rfl⟩
abbrev main_call1_v0 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_5 : Ref sig .tc := ⟨.hbm, 88, rfl⟩
abbrev main_call2_v0 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_6 : Ref sig .tc := ⟨.hbm, 93, rfl⟩
abbrev main_call3_v0 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_7 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c_8 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_9 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_c_10 : Ref sig .tc := ⟨.hbm, 122, rfl⟩
abbrev main_v88 : Ref sig .tc := ⟨.hbm, 123, rfl⟩
abbrev main_v89 : Ref sig .tc := ⟨.hbm, 124, rfl⟩
abbrev main_c_11 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_12 : Ref sig .tc := ⟨.hbm, 136, rfl⟩
abbrev main_call4_v0 : Ref sig .tc := ⟨.hbm, 137, rfl⟩
abbrev main_call4_v1 : Ref sig .tc := ⟨.hbm, 138, rfl⟩
abbrev main_call4_v2 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_13 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_14 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩

abbrev nD : Nat := 1
abbrev τ : Topo := Topo.v7x

variable {F : FTy → Type} [FloatOps F]
-- ==== InProj.lean ====
abbrev S4x2048x2048 : Shape := ⟨3, ![4, 2048, 2048]⟩
abbrev S1x2048 : Shape := ⟨2, ![1, 2048]⟩
abbrev S1x2048x3328 : Shape := ⟨3, ![1, 2048, 3328]⟩
abbrev S1x16384x2048 : Shape := ⟨3, ![1, 16384, 2048]⟩
abbrev S8192x2048 : Shape := ⟨2, ![8192, 2048]⟩
abbrev S2048 : Shape := ⟨1, ![2048]⟩
abbrev S2048x3328 : Shape := ⟨2, ![2048, 3328]⟩
abbrev S16384x2048 : Shape := ⟨2, ![16384, 2048]⟩
abbrev S8192x1024 : Shape := ⟨2, ![8192, 1024]⟩
abbrev S8192x256 : Shape := ⟨2, ![8192, 256]⟩
abbrev S512x2048 : Shape := ⟨2, ![512, 2048]⟩
abbrev S1024x2048 : Shape := ⟨2, ![1024, 2048]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S2048x1024 : Shape := ⟨2, ![2048, 1024]⟩
abbrev S2048x256 : Shape := ⟨2, ![2048, 256]⟩

abbrev nBuf : Space → Nat
  | .hbm => 15
  | .vmem => 16
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x3328, .f32⟩
  | .hbm, ⟨3, _⟩ => ⟨S1x16384x2048, .f32⟩
  | .hbm, ⟨4, _⟩ => ⟨S8192x2048, .f32⟩
  | .hbm, ⟨5, _⟩ => ⟨S2048, .f32⟩
  | .hbm, ⟨6, _⟩ => ⟨S1x2048, .f32⟩
  | .hbm, ⟨7, _⟩ => ⟨S2048x3328, .f32⟩
  | .hbm, ⟨8, _⟩ => ⟨S2048x3328, .bf16⟩
  | .hbm, ⟨9, _⟩ => ⟨S16384x2048, .f32⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S8192x256, .bf16⟩
  | .hbm, ⟨14, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x3328, .bf16⟩
  | .local _ .vmem, ⟨4, _⟩ => ⟨S1024x2048, .f32⟩
  | .local _ .vmem, ⟨5, _⟩ => ⟨S1024x2048, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x256, .bf16⟩
  | .local _ .vmem, ⟨13, _⟩ => ⟨S512x256, .bf16⟩
  | .local _ .vmem, ⟨14, _⟩ => ⟨S1024x2048, .bf16⟩
  | .local _ .vmem, ⟨15, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev main_v6_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InRefIdeal.lean ====
abbrev S4x2048x2048 : Shape := ⟨3, ![4, 2048, 2048]⟩
abbrev S1x2048 : Shape := ⟨2, ![1, 2048]⟩
abbrev S1x2048x3328 : Shape := ⟨3, ![1, 2048, 3328]⟩
abbrev S1x16384x2048 : Shape := ⟨3, ![1, 16384, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x3328 : Shape := ⟨2, ![2048, 3328]⟩
abbrev S4x2048x3328 : Shape := ⟨3, ![4, 2048, 3328]⟩
abbrev S4x2048x1024 : Shape := ⟨3, ![4, 2048, 1024]⟩
abbrev S4x2048x256 : Shape := ⟨3, ![4, 2048, 256]⟩
abbrev S8192x1024 : Shape := ⟨2, ![8192, 1024]⟩
abbrev S8192x256 : Shape := ⟨2, ![8192, 256]⟩
abbrev S16384x2048 : Shape := ⟨2, ![16384, 2048]⟩

abbrev nBuf : Space → Nat
  | .hbm => 55
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x3328, .f32⟩
  | .hbm, ⟨3, _⟩ => ⟨S1x16384x2048, .f32⟩
  | .hbm, ⟨4, _⟩ => ⟨S2048, .f32⟩
  | .hbm, ⟨5, _⟩ => ⟨S4x2048x2048, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x2048, .f32⟩
  | .hbm, ⟨17, _⟩ => ⟨S4x2048x2048, .f32⟩
  | .hbm, ⟨18, _⟩ => ⟨S1x1x2048, .f32⟩
  | .hbm, ⟨19, _⟩ => ⟨S4x2048x2048, .f32⟩
  | .hbm, ⟨20, _⟩ => ⟨S4x2048x2048, .f32⟩
  | .hbm, ⟨21, _⟩ => ⟨S2048x3328, .f32⟩
  | .hbm, ⟨22, _⟩ => ⟨S4x2048x3328, .f32⟩
  | .hbm, ⟨23, _⟩ => ⟨S4x2048x1024, .f32⟩
  | .hbm, ⟨24, _⟩ => ⟨S4x2048x1024, .f32⟩
  | .hbm, ⟨25, _⟩ => ⟨S4x2048x1024, .f32⟩
  | .hbm, ⟨26, _⟩ => ⟨S4x2048x256, .f32⟩
  | .hbm, ⟨27, _⟩ => ⟨S_, .f32⟩
  | .hbm, ⟨28, _⟩ => ⟨S4x2048x1024, .f32⟩
  | .hbm, ⟨29, _⟩ => ⟨S4x2048x1024, .f32⟩
  | .hbm, ⟨30, _⟩ => ⟨S4x2048x1024, .f32⟩
  | .hbm, ⟨31, _⟩ => ⟨S_, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S_, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S_, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S4x2048x1024, .f32⟩
  | .hbm, ⟨45, _⟩ => ⟨S8192x1024, .f32⟩
  | .hbm, ⟨46, _⟩ => ⟨S8192x1024, .bf16⟩
  | .hbm, ⟨47, _⟩ => ⟨S8192x1024, .f32⟩
  | .hbm, ⟨48, _⟩ => ⟨S8192x1024, .bf16⟩
  | .hbm, ⟨49, _⟩ => ⟨S8192x1024, .f32⟩
  | .hbm, ⟨50, _⟩ => ⟨S8192x1024, .bf16⟩
  | .hbm, ⟨51, _⟩ => ⟨S8192x256, .f32⟩
  | .hbm, ⟨52, _⟩ => ⟨S8192x256, .bf16⟩
  | .hbm, ⟨53, _⟩ => ⟨S16384x2048, .f32⟩
  | .hbm, ⟨54, _⟩ => ⟨S16384x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== OutProj.lean ====
abbrev S8192x2048 : Shape := ⟨2, ![8192, 2048]⟩
abbrev S4x2048x2048 : Shape := ⟨3, ![4, 2048, 2048]⟩
abbrev S2048x2048 : Shape := ⟨2, ![2048, 2048]⟩
abbrev S1x2048 : Shape := ⟨2, ![1, 2048]⟩
abbrev S1x2x128x128 : Shape := ⟨4, ![1, 2, 128, 128]⟩
abbrev S1x16384x2048 : Shape := ⟨3, ![1, 16384, 2048]⟩
abbrev S2048 : Shape := ⟨1, ![2048]⟩
abbrev S2x128x128 : Shape := ⟨3, ![2, 128, 128]⟩
abbrev S16384x2048 : Shape := ⟨2, ![16384, 2048]⟩
abbrev S2048x8192 : Shape := ⟨2, ![2048, 8192]⟩
abbrev S8x128x8192 : Shape := ⟨3, ![8, 128, 8192]⟩
abbrev S16x2048x1024 : Shape := ⟨3, ![16, 2048, 1024]⟩
abbrev S256x2048 : Shape := ⟨2, ![256, 2048]⟩
abbrev S512x2048 : Shape := ⟨2, ![512, 2048]⟩
abbrev S2048x256 : Shape := ⟨2, ![2048, 256]⟩
abbrev S8x128x256 : Shape := ⟨3, ![8, 128, 256]⟩
abbrev S1x2048x512 : Shape := ⟨3, ![1, 2048, 512]⟩
abbrev S2048x512 : Shape := ⟨2, ![2048, 512]⟩
abbrev S256 : Shape := ⟨1, ![256]⟩
abbrev S256x1 : Shape := ⟨2, ![256, 1]⟩
abbrev S256x128 : Shape := ⟨2, ![256, 128]⟩
abbrev S1x128x128 : Shape := ⟨3, ![1, 128, 128]⟩
abbrev S128x128 : Shape := ⟨2, ![128, 128]⟩
abbrev S128x256 : Shape := ⟨2, ![128, 256]⟩
abbrev S1x128x256 : Shape := ⟨3, ![1, 128, 256]⟩

abbrev nBuf : Space → Nat
  | .hbm => 18
  | .vmem => 20
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S2048x2048, .bf16⟩
  | .hbm, ⟨3, _⟩ => ⟨S1x2048, .f32⟩
  | .hbm, ⟨4, _⟩ => ⟨S2048x2048, .bf16⟩
  | .hbm, ⟨5, _⟩ => ⟨S1x2x128x128, .f32⟩
  | .hbm, ⟨6, _⟩ => ⟨S1x16384x2048, .f32⟩
  | .hbm, ⟨7, _⟩ => ⟨S8192x2048, .f32⟩
  | .hbm, ⟨8, _⟩ => ⟨S2048, .f32⟩
  | .hbm, ⟨9, _⟩ => ⟨S1x2048, .f32⟩
  | .hbm, ⟨10, _⟩ => ⟨S2x128x128, .f32⟩
  | .hbm, ⟨11, _⟩ => ⟨S2x128x128, .bf16⟩
  | .hbm, ⟨12, _⟩ => ⟨S16384x2048, .f32⟩
  | .hbm, ⟨13, _⟩ => ⟨S8192x2048, .f32⟩
  | .hbm, ⟨14, _⟩ => ⟨S2048x8192, .bf16⟩
  | .hbm, ⟨15, _⟩ => ⟨S8x128x8192, .f32⟩
  | .hbm, ⟨16, _⟩ => ⟨S8x128x8192, .f32⟩
  | .hbm, ⟨17, _⟩ => ⟨S16x2048x1024, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S2048x2048, .bf16⟩
  | .local _ .vmem, ⟨5, _⟩ => ⟨S1x2048, .f32⟩
  | .local _ .vmem, ⟨6, _⟩ => ⟨S2048x2048, .bf16⟩
  | .local _ .vmem, ⟨7, _⟩ => ⟨S2x128x128, .bf16⟩
  | .local _ .vmem, ⟨8, _⟩ => ⟨S512x2048, .f32⟩
  | .local _ .vmem, ⟨9, _⟩ => ⟨S512x2048, .f32⟩
  | .local _ .vmem, ⟨10, _⟩ => ⟨S256x2048, .f32⟩
  | .local _ .vmem, ⟨11, _⟩ => ⟨S256x2048, .f32⟩
  | .local _ .vmem, ⟨12, _⟩ => ⟨S2048x256, .bf16⟩
  | .local _ .vmem, ⟨13, _⟩ => ⟨S2048x256, .bf16⟩
  | .local _ .vmem, ⟨14, _⟩ => ⟨S8x128x256, .f32⟩
  | .local _ .vmem, ⟨15, _⟩ => ⟨S8x128x256, .f32⟩
  | .local _ .vmem, ⟨16, _⟩ => ⟨S8x128x256, .f32⟩
  | .local _ .vmem, ⟨17, _⟩ => ⟨S8x128x256, .f32⟩
  | .local _ .vmem, ⟨18, _⟩ => ⟨S1x2048x512, .bf16⟩
  | .local _ .vmem, ⟨19, _⟩ => ⟨S1x2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2048x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OutRefIdeal.lean ====
abbrev S8192x2048 : Shape := ⟨2, ![8192, 2048]⟩
abbrev S4x2048x2048 : Shape := ⟨3, ![4, 2048, 2048]⟩
abbrev S2048x2048 : Shape := ⟨2, ![2048, 2048]⟩
abbrev S1x2048 : Shape := ⟨2, ![1, 2048]⟩
abbrev S1x2x128x128 : Shape := ⟨4, ![1, 2, 128, 128]⟩
abbrev S1x16384x2048 : Shape := ⟨3, ![1, 16384, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x8x2x128 : Shape := ⟨4, ![8192, 8, 2, 128]⟩
abbrev S8192x8x1x128 : Shape := ⟨4, ![8192, 8, 1, 128]⟩
abbrev S8192x8x128 : Shape := ⟨3, ![8192, 8, 128]⟩
abbrev S1x1x128x128 : Shape := ⟨4, ![1, 1, 128, 128]⟩
abbrev S128x128 : Shape := ⟨2, ![128, 128]⟩
abbrev S16384x2048 : Shape := ⟨2, ![16384, 2048]⟩
abbrev S16x1024x2048 : Shape := ⟨3, ![16, 1024, 2048]⟩
abbrev S2048x8192 : Shape := ⟨2, ![2048, 8192]⟩
abbrev S8x128x8192 : Shape := ⟨3, ![8, 128, 8192]⟩
abbrev S16x2048x1024 : Shape := ⟨3, ![16, 2048, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S2048x2048, .bf16⟩
  | .hbm, ⟨3, _⟩ => ⟨S1x2048, .f32⟩
  | .hbm, ⟨4, _⟩ => ⟨S2048x2048, .bf16⟩
  | .hbm, ⟨5, _⟩ => ⟨S1x2x128x128, .f32⟩
  | .hbm, ⟨6, _⟩ => ⟨S1x16384x2048, .f32⟩
  | .hbm, ⟨7, _⟩ => ⟨S8192x2048, .f32⟩
  | .hbm, ⟨8, _⟩ => ⟨S4x2048x2048, .f32⟩
  | .hbm, ⟨9, _⟩ => ⟨S2048x2048, .f32⟩
  | .hbm, ⟨10, _⟩ => ⟨S4x2048x2048, .f32⟩
  | .hbm, ⟨11, _⟩ => ⟨S4x2048x2048, .f32⟩
  | .hbm, ⟨12, _⟩ => ⟨S2048, .f32⟩
  | .hbm, ⟨13, _⟩ => ⟨S4x2048x2048, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S4x2048x1, .f32⟩
  | .hbm, ⟨24, _⟩ => ⟨S4x2048x2048, .f32⟩
  | .hbm, ⟨25, _⟩ => ⟨S4x2048x2048, .f32⟩
  | .hbm, ⟨26, _⟩ => ⟨S1x1x2048, .f32⟩
  | .hbm, ⟨27, _⟩ => ⟨S4x2048x2048, .f32⟩
  | .hbm, ⟨28, _⟩ => ⟨S4x2048x2048, .f32⟩
  | .hbm, ⟨29, _⟩ => ⟨S8192x2048, .f32⟩
  | .hbm, ⟨30, _⟩ => ⟨S2048x2048, .f32⟩
  | .hbm, ⟨31, _⟩ => ⟨S8192x2048, .f32⟩
  | .hbm, ⟨32, _⟩ => ⟨S8192x8x2x128, .f32⟩
  | .hbm, ⟨33, _⟩ => ⟨S8192x8x1x128, .f32⟩
  | .hbm, ⟨34, _⟩ => ⟨S8192x8x128, .f32⟩
  | .hbm, ⟨35, _⟩ => ⟨S1x1x128x128, .f32⟩
  | .hbm, ⟨36, _⟩ => ⟨S128x128, .f32⟩
  | .hbm, ⟨37, _⟩ => ⟨S8192x8x128, .f32⟩
  | .hbm, ⟨38, _⟩ => ⟨S8192x8x1x128, .f32⟩
  | .hbm, ⟨39, _⟩ => ⟨S8192x8x128, .f32⟩
  | .hbm, ⟨40, _⟩ => ⟨S1x1x128x128, .f32⟩
  | .hbm, ⟨41, _⟩ => ⟨S128x128, .f32⟩
  | .hbm, ⟨42, _⟩ => ⟨S8192x8x128, .f32⟩
  | .hbm, ⟨43, _⟩ => ⟨S16384x2048, .f32⟩
  | .hbm, ⟨44, _⟩ => ⟨S16x1024x2048, .f32⟩
  | .hbm, ⟨45, _⟩ => ⟨S16x1024x2048, .bf16⟩
  | .hbm, ⟨46, _⟩ => ⟨S8192x2048, .f32⟩
  | .hbm, ⟨47, _⟩ => ⟨S2048x8192, .f32⟩
  | .hbm, ⟨48, _⟩ => ⟨S2048x8192, .bf16⟩
  | .hbm, ⟨49, _⟩ => ⟨S8x128x8192, .f32⟩
  | .hbm, ⟨50, _⟩ => ⟨S8x128x8192, .f32⟩
  | .hbm, ⟨51, _⟩ => ⟨S16x2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== Final.lean ====
abbrev S8192x2048 : Shape := ⟨2, ![8192, 2048]⟩
abbrev S2048x8192 : Shape := ⟨2, ![2048, 8192]⟩
abbrev S2048 : Shape := ⟨1, ![2048]⟩
abbrev S1x2048 : Shape := ⟨2, ![1, 2048]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S2048, .f32⟩
  | .hbm, ⟨3, _⟩ => ⟨S1x2048, .f32⟩
  | .hbm, ⟨4, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S2048x256, .f32⟩
  | .local _ .vmem, ⟨3, _⟩ => ⟨S2048x256, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FinalRefIdeal.lean ====
abbrev S8192x2048 : Shape := ⟨2, ![8192, 2048]⟩
abbrev S2048x8192 : Shape := ⟨2, ![2048, 8192]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Own.FinalValue.lean ====
module

public import proofs.«01_k».proof.Defs
public import proofs.«01_k».proof.Proof.Gen.FinalIdeal.Frame
public import proofs.«01_k».proof.Proof.Gen.FinalRefIdeal.Run
public import Idealize.ShloMosaic.Lib.Claim
public import Idealize.ShloMosaic.Lib.Pointwise
public import Idealize.ShloMosaic.Lib.Pipeline.ValueKit

@[expose] public section

set_option maxRecDepth 16384

noncomputable section

namespace Cert.FinalIdeal.Own

open Cert.FinalIdeal Cert.FinalIdeal.Gen Idealize.ShloMosaic Idealize.ShloMosaic.TcCoe Idealize.SL.Sem
open Idealize.ShloMosaic.Pipeline (Dat)

/-- Where each window's block lies at grid point `t`. -/
theorem idx : ∀ t : Fin cfg0.N, win0_0.index t = ![t.val, 0] ∧ win0_1.index t = ![0, t.val]
    ∧ win0_2.index t = ![0, 0] ∧ win0_3.index t = ![t.val, 0] :=
  (by decide +kernel : ∀ t : Fin grid0.N, _)

/-- The last step, a residual sum and a root-mean-square norm, computes what its plain form computes. -/
theorem algebraic : Cert.algebraic_FinalIdeal_FinalRefIdeal := by
  pair_intro
  · run_from Cert.FinalIdeal.Gen.run_main m g
  · run_from Cert.FinalRefIdeal.Value.run m' g'
    symm
    refine (Cert.FinalIdeal.Gen.dats m 0 c).arrAt_eq_of_covers 3 _ (by decide +kernel) fun t _ y => ?_
    blk_simp
    rw [after0_3]
    frame_out
    pointwise [k0_pay1]
    blk_point [iblk, V, idx t]

end Cert.FinalIdeal.Own

end
-- ==== Proof.Own.InRefPure.lean ====
module
public import proofs.«01_k».proof.Proof.Gen.InRefIdeal.Run
public import Idealize.ShloMosaic.Lib.Pointwise
@[expose] public section
set_option maxRecDepth 16384
noncomputable section
namespace Cert.InRefIdeal.Own
open Cert.InRefIdeal Cert.InRefIdeal.Gen Idealize.ShloMosaic Idealize.ShloMosaic.TcCoe Idealize.SL.Sem

/-- The normalised rows. -/
def rN (X : FVec Ideal S4x2048x2048 .f32) (G : FVec Ideal S1x2048 .f32) : FVec Ideal S4x2048x2048 .f32 :=
  mulf (mulf X (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf X X) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast _ G shapeCasts_S1x2048_S2048)))

/-- The projection. -/
def rZ (X : FVec Ideal S4x2048x2048 .f32) (G : FVec Ideal S1x2048 .f32) (W : FVec Ideal S1x2048x3328 .f32) : FVec Ideal S4x2048x3328 .f32 :=
  Host.dotGeneral dot_S4x2048x2048_S2048x3328_S4x2048x3328_2_0_01_1_n_n none (rN X G) (shapeCast _ W shapeCasts_S1x2048x3328_S2048x3328)

/-- The exact GELU, as the reference writes it, over one 1024-wide slice. -/
def rG (z : FVec Ideal S4x2048x1024 .f32) : FVec Ideal S8192x1024 .bf16 :=
  truncf .bf16 (shapeCast _ (mulf (mulf (broadcastInDim S4x2048x1024 ![] bcast_S_S4x2048x1024 (constant S_ .f32 0x3F000000#32)) z) (Host.erfc (mulf (Host.negf z) (broadcastInDim S4x2048x1024 ![] bcast_S_S4x2048x1024 (constant S_ .f32 0x3F3504F3#32))))) shapeCasts_S4x2048x1024_S8192x1024) bitsLt_bf16_f32

/-- The root-mean-square factor of one row. -/
def nrm (f : Fin 2048 → EReal) : EReal :=
  Ideal.rsqrt (Ideal.div (∑ k : Fin 2048, f k * f k) (Ideal.ofBits .f32 0x45000000#32) + Ideal.ofBits .f32 0x358637BD#32)

/-- The exact GELU of one number. -/
def gl (z : EReal) : EReal :=
  Ideal.ofBits .f32 0x3F000000#32 * z * (1 + Ideal.erf (z * Ideal.ofBits .f32 0x3F3504F3#32))

theorem rN_at (X : FVec Ideal S4x2048x2048 .f32) (G : FVec Ideal S1x2048 .f32) (b : Fin 4) (s : Fin 2048) (d : Fin 2048) :
    rN X G (ix3 b s d) = X (ix3 b s d) * nrm (fun k => X (ix3 b s k)) * G (ix2 0 d) := by
  pointwise [rN, nrm]
  try simp only [zero_add]

theorem rZ_at (X : FVec Ideal S4x2048x2048 .f32) (G : FVec Ideal S1x2048 .f32) (W : FVec Ideal S1x2048x3328 .f32) (b : Fin 4) (s : Fin 2048) (d : Fin 3328) :
    rZ X G W (ix3 b s d) = ∑ k : Fin 2048, (X (ix3 b s k) * nrm (fun k => X (ix3 b s k)) * G (ix2 0 k)) * W (ix3 0 k d) := by
  pointwise [rZ, rN_at]

theorem rG_at (z : FVec Ideal S4x2048x1024 .f32) (i : Fin 8192) (j : Fin 1024) :
    rG z (ix2 i j) = gl (z (ix3 ⟨i.val / 2048, by omega⟩ ⟨i.val % 2048, by omega⟩ j)) := by
  pointwise [rG, gl]
  simp only [← Ideal.erfc_neg, neg_mul]

/-- The two gated results, and the two plain ones. -/
def uRef (X : FVec Ideal S4x2048x2048 .f32) (G : FVec Ideal S1x2048 .f32) (W : FVec Ideal S1x2048x3328 .f32) : FVec Ideal S8192x1024 .bf16 :=
  rG (extractStridedSlice S4x2048x1024 ![0, 0, 0] (rZ X G W) slices_S4x2048x3328_S4x2048x1024_0_0_0)
def vRef (X : FVec Ideal S4x2048x2048 .f32) (G : FVec Ideal S1x2048 .f32) (W : FVec Ideal S1x2048x3328 .f32) : FVec Ideal S8192x1024 .bf16 :=
  rG (extractStridedSlice S4x2048x1024 ![0, 0, 1024] (rZ X G W) slices_S4x2048x3328_S4x2048x1024_0_0_1024)
def qRef (X : FVec Ideal S4x2048x2048 .f32) (G : FVec Ideal S1x2048 .f32) (W : FVec Ideal S1x2048x3328 .f32) : FVec Ideal S8192x1024 .bf16 :=
  truncf .bf16 (shapeCast _ (extractStridedSlice S4x2048x1024 ![0, 0, 2048] (rZ X G W) slices_S4x2048x3328_S4x2048x1024_0_0_2048) shapeCasts_S4x2048x1024_S8192x1024) bitsLt_bf16_f32
def kvRef (X : FVec Ideal S4x2048x2048 .f32) (G : FVec Ideal S1x2048 .f32) (W : FVec Ideal S1x2048x3328 .f32) : FVec Ideal S8192x256 .bf16 :=
  truncf .bf16 (shapeCast _ (extractStridedSlice S4x2048x256 ![0, 0, 3072] (rZ X G W) slices_S4x2048x3328_S4x2048x256_0_0_3072) shapeCasts_S4x2048x256_S8192x256) bitsLt_bf16_f32
def dnRef (D : FVec Ideal S1x16384x2048 .f32) : FVec Ideal S16384x2048 .bf16 :=
  truncf .bf16 (shapeCast _ D shapeCasts_S1x16384x2048_S16384x2048) bitsLt_bf16_f32

/-- One entry of the projection, from the arguments. -/
def zc (X : FVec Ideal S4x2048x2048 .f32) (G : FVec Ideal S1x2048 .f32) (W : FVec Ideal S1x2048x3328 .f32) (b : Fin 4) (s : Fin 2048) (d : Fin 3328) : EReal :=
  ∑ k : Fin 2048, (X (ix3 b s k) * nrm (fun k => X (ix3 b s k)) * G (ix2 0 k)) * W (ix3 0 k d)

theorem uRef_at (X : FVec Ideal S4x2048x2048 .f32) (G : FVec Ideal S1x2048 .f32) (W : FVec Ideal S1x2048x3328 .f32) (i : Fin 8192) (j : Fin 1024) :
    uRef X G W (ix2 i j) = gl (zc X G W ⟨i.val / 2048, by omega⟩ ⟨i.val % 2048, by omega⟩ ⟨j.val, by omega⟩) := by
  pointwise [uRef, rG_at, rZ_at, zc]
theorem vRef_at (X : FVec Ideal S4x2048x2048 .f32) (G : FVec Ideal S1x2048 .f32) (W : FVec Ideal S1x2048x3328 .f32) (i : Fin 8192) (j : Fin 1024) :
    vRef X G W (ix2 i j) = gl (zc X G W ⟨i.val / 2048, by omega⟩ ⟨i.val % 2048, by omega⟩ ⟨1024 + j.val, by omega⟩) := by
  pointwise [vRef, rG_at, rZ_at, zc]
theorem qRef_at (X : FVec Ideal S4x2048x2048 .f32) (G : FVec Ideal S1x2048 .f32) (W : FVec Ideal S1x2048x3328 .f32) (i : Fin 8192) (j : Fin 1024) :
    qRef X G W (ix2 i j) = zc X G W ⟨i.val / 2048, by omega⟩ ⟨i.val % 2048, by omega⟩ ⟨2048 + j.val, by omega⟩ := by
  pointwise [qRef, rZ_at, zc]
theorem kvRef_at (X : FVec Ideal S4x2048x2048 .f32) (G : FVec Ideal S1x2048 .f32) (W : FVec Ideal S1x2048x3328 .f32) (i : Fin 8192) (j : Fin 256) :
    kvRef X G W (ix2 i j) = zc X G W ⟨i.val / 2048, by omega⟩ ⟨i.val % 2048, by omega⟩ ⟨3072 + j.val, by omega⟩ := by
  pointwise [kvRef, rZ_at, zc]
theorem dnRef_at (D : FVec Ideal S1x16384x2048 .f32) (i : Fin 16384) (j : Fin 2048) :
    dnRef D (ix2 i j) = D (ix3 0 i j) := by
  pointwise [dnRef]

theorem uRef_pt (X : FVec Ideal S4x2048x2048 .f32) (G : FVec Ideal S1x2048 .f32) (W : FVec Ideal S1x2048x3328 .f32) (J : S8192x1024.Idx)
    (b : Fin 4) (s : Fin 2048) (d : Fin 3328) (h0 : (J 0 : ℕ) = b.val * 2048 + s.val) (h1 : d.val = 0 + (J 1 : ℕ)) :
    uRef X G W J = gl (zc X G W b s d) := by
  obtain ⟨i, j, rfl⟩ : ∃ (i : Fin 8192) (j : Fin 1024), J = ix2 i j := ⟨J 0, J 1, eq_ix2 J⟩
  have e0 : (i : ℕ) = b.val * 2048 + s.val := h0
  have e1 : d.val = 0 + (j : ℕ) := h1
  rw [uRef_at]
  have eb : (⟨i.val / 2048, by omega⟩ : Fin 4) = b := Fin.ext (by simp only; omega)
  have es : (⟨i.val % 2048, by omega⟩ : Fin 2048) = s := Fin.ext (by simp only; omega)
  have ed : (⟨0 + j.val, by omega⟩ : Fin 3328) = d := Fin.ext (by simp only; omega)
  rw [eb, es, ← ed]; simp only [Nat.zero_add]
theorem vRef_pt (X : FVec Ideal S4x2048x2048 .f32) (G : FVec Ideal S1x2048 .f32) (W : FVec Ideal S1x2048x3328 .f32) (J : S8192x1024.Idx)
    (b : Fin 4) (s : Fin 2048) (d : Fin 3328) (h0 : (J 0 : ℕ) = b.val * 2048 + s.val) (h1 : d.val = 1024 + (J 1 : ℕ)) :
    vRef X G W J = gl (zc X G W b s d) := by
  obtain ⟨i, j, rfl⟩ : ∃ (i : Fin 8192) (j : Fin 1024), J = ix2 i j := ⟨J 0, J 1, eq_ix2 J⟩
  have e0 : (i : ℕ) = b.val * 2048 + s.val := h0
  have e1 : d.val = 1024 + (j : ℕ) := h1
  rw [vRef_at]
  have eb : (⟨i.val / 2048, by omega⟩ : Fin 4) = b := Fin.ext (by simp only; omega)
  have es : (⟨i.val % 2048, by omega⟩ : Fin 2048) = s := Fin.ext (by simp only; omega)
  have ed : (⟨1024 + j.val, by omega⟩ : Fin 3328) = d := Fin.ext (by simp only; omega)
  rw [eb, es, ← ed]
theorem qRef_pt (X : FVec Ideal S4x2048x2048 .f32) (G : FVec Ideal S1x2048 .f32) (W : FVec Ideal S1x2048x3328 .f32) (J : S8192x1024.Idx)
    (b : Fin 4) (s : Fin 2048) (d : Fin 3328) (h0 : (J 0 : ℕ) = b.val * 2048 + s.val) (h1 : d.val = 2048 + (J 1 : ℕ)) :
    qRef X G W J = zc X G W b s d := by
  obtain ⟨i, j, rfl⟩ : ∃ (i : Fin 8192) (j : Fin 1024), J = ix2 i j := ⟨J 0, J 1, eq_ix2 J⟩
  have e0 : (i : ℕ) = b.val * 2048 + s.val := h0
  have e1 : d.val = 2048 + (j : ℕ) := h1
  rw [qRef_at]
  have eb : (⟨i.val / 2048, by omega⟩ : Fin 4) = b := Fin.ext (by simp only; omega)
  have es : (⟨i.val % 2048, by omega⟩ : Fin 2048) = s := Fin.ext (by simp only; omega)
  have ed : (⟨2048 + j.val, by omega⟩ : Fin 3328) = d := Fin.ext (by simp only; omega)
  rw [eb, es, ← ed]
theorem kvRef_pt (X : FVec Ideal S4x2048x2048 .f32) (G : FVec Ideal S1x2048 .f32) (W : FVec Ideal S1x2048x3328 .f32) (J : S8192x256.Idx)
    (b : Fin 4) (s : Fin 2048) (d : Fin 3328) (h0 : (J 0 : ℕ) = b.val * 2048 + s.val) (h1 : d.val = 3072 + (J 1 : ℕ)) :
    kvRef X G W J = zc X G W b s d := by
  obtain ⟨i, j, rfl⟩ : ∃ (i : Fin 8192) (j : Fin 256), J = ix2 i j := ⟨J 0, J 1, eq_ix2 J⟩
  have e0 : (i : ℕ) = b.val * 2048 + s.val := h0
  have e1 : d.val = 3072 + (j : ℕ) := h1
  rw [kvRef_at]
  have eb : (⟨i.val / 2048, by omega⟩ : Fin 4) = b := Fin.ext (by simp only; omega)
  have es : (⟨i.val % 2048, by omega⟩ : Fin 2048) = s := Fin.ext (by simp only; omega)
  have ed : (⟨3072 + j.val, by omega⟩ : Fin 3328) = d := Fin.ext (by simp only; omega)
  rw [eb, es, ← ed]
theorem dnRef_pt (D : FVec Ideal S1x16384x2048 .f32) (J : S16384x2048.Idx) (i : Fin 16384) (j : Fin 2048) (h0 : (i : ℕ) = (J 0 : ℕ)) (h1 : (j : ℕ) = (J 1 : ℕ)) :
    dnRef D J = D (ix3 0 i j) := by
  obtain ⟨i', j', rfl⟩ : ∃ (i' : Fin 16384) (j' : Fin 2048), J = ix2 i' j' := ⟨J 0, J 1, eq_ix2 J⟩
  have e0 : i = i' := Fin.ext h0
  have e1 : j = j' := Fin.ext h1
  rw [dnRef_at, e0, e1]

/-- The reference's run, its results by name. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35) = uRef (m ((c.tc : Thread nD τ).loc main_arg0)) (m ((c.tc : Thread nD τ).loc main_arg1)) (m ((c.tc : Thread nD τ).loc main_arg2))
      ∧ r.2.mem ((c.tc : Thread nD τ).loc main_v37) = vRef (m ((c.tc : Thread nD τ).loc main_arg0)) (m ((c.tc : Thread nD τ).loc main_arg1)) (m ((c.tc : Thread nD τ).loc main_arg2))
      ∧ r.2.mem ((c.tc : Thread nD τ).loc main_v39) = qRef (m ((c.tc : Thread nD τ).loc main_arg0)) (m ((c.tc : Thread nD τ).loc main_arg1)) (m ((c.tc : Thread nD τ).loc main_arg2))
      ∧ r.2.mem ((c.tc : Thread nD τ).loc main_v41) = kvRef (m ((c.tc : Thread nD τ).loc main_arg0)) (m ((c.tc : Thread nD τ).loc main_arg1)) (m ((c.tc : Thread nD τ).loc main_arg2))
      ∧ r.2.mem ((c.tc : Thread nD τ).loc main_v43) = dnRef (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h => h) (Value.run m ρ)

end Cert.InRefIdeal.Own
end
-- ==== Proof.Own.InValue.lean ====
module

public import proofs.«01_k».proof.Defs
public import proofs.«01_k».proof.Proof.Gen.InProjIdeal.Frame
public import proofs.«01_k».proof.Proof.Own.InRefPure
public import Idealize.ShloMosaic.Lib.Claim
public import Idealize.ShloMosaic.Lib.Pointwise
public import Idealize.ShloMosaic.Lib.Pipeline.ValueKit

@[expose] public section

set_option maxRecDepth 16384

noncomputable section

namespace Cert.InProjIdeal.Own

open Cert.InProjIdeal Cert.InProjIdeal.Gen Idealize.ShloMosaic Idealize.ShloMosaic.TcCoe Idealize.SL.Sem
open Idealize.ShloMosaic.Pipeline (Dat)

/-- Where each window's block lies at grid point `t`. -/
theorem idx : ∀ t : Fin cfg0.N, win0_0.index t = ![t.val, 0] ∧ win0_1.index t = ![0, 0]
    ∧ win0_2.index t = ![0, 0] ∧ win0_3.index t = ![t.val, 0] ∧ win0_4.index t = ![t.val, 0]
    ∧ win0_5.index t = ![t.val, 0] ∧ win0_6.index t = ![t.val, 0] ∧ win0_7.index t = ![t.val, 0]
    ∧ win0_8.index t = ![t.val, 0] := (by decide +kernel : ∀ t : Fin grid0.N, _)

/-- The projection of one row, at the kernel's operands. -/
def kz {n : ℕ} (x : FVec Ideal S512x2048 .f32) (g : FVec Ideal S1x2048 .f32) (w : Fin 2048 → Fin n → EReal) (r : Fin 512) (j : Fin n) : EReal :=
  ∑ k : Fin 2048, (x (ix2 r k) * Cert.InRefIdeal.Own.nrm (fun k => x (ix2 r k)) * g (ix2 0 k)) * w k j

theorem pay5_at (x : FVec Ideal S512x2048 .f32) (g : FVec Ideal S1x2048 .f32) (r : Fin 512) (k : Fin 2048) :
    k0_pay5 (F := Ideal) x g (ix2 r k) = x (ix2 r k) * Cert.InRefIdeal.Own.nrm (fun k => x (ix2 r k)) * g (ix2 0 k) := by
  pointwise [k0_pay5, Cert.InRefIdeal.Own.nrm]

theorem pay6_at (x : FVec Ideal S512x2048 .f32) (g : FVec Ideal S1x2048 .f32) (w : FVec Ideal S2048x1024 .bf16) (r : Fin 512) (j : Fin 1024) :
    k0_pay6 (F := Ideal) x g w (ix2 r j) = Cert.InRefIdeal.Own.gl (kz x g (fun k j => w (ix2 k j)) r j) := by
  pointwise [k0_pay6, Ideal.erf_def, pay5_at, Cert.InRefIdeal.Own.gl, kz]
  try simp only [zero_add]

theorem pay1_at (x : FVec Ideal S512x2048 .f32) (g : FVec Ideal S1x2048 .f32) (w : FVec Ideal S2048x1024 .bf16) (r : Fin 512) (j : Fin 1024) :
    k0_pay1 (F := Ideal) (k0_pay5 x g) (k0_pay7 w) (ix2 r j) = Cert.InRefIdeal.Own.gl (kz x g (fun k j => w (ix2 k j)) r j) := by
  pointwise [k0_pay1, k0_pay7, Ideal.erf_def, pay5_at, Cert.InRefIdeal.Own.gl, kz]
  try simp only [zero_add]

theorem pay2_at (x : FVec Ideal S512x2048 .f32) (g : FVec Ideal S1x2048 .f32) (w : FVec Ideal S2048x1024 .bf16) (r : Fin 512) (j : Fin 1024) :
    k0_pay2 (F := Ideal) (k0_pay5 x g) w (ix2 r j) = kz x g (fun k j => w (ix2 k j)) r j := by
  pointwise [k0_pay2, pay5_at, kz]
  try simp only [zero_add]

theorem pay3_at (x : FVec Ideal S512x2048 .f32) (g : FVec Ideal S1x2048 .f32) (w : FVec Ideal S2048x256 .bf16) (r : Fin 512) (j : Fin 256) :
    k0_pay3 (F := Ideal) (k0_pay5 x g) w (ix2 r j) = kz x g (fun k j => w (ix2 k j)) r j := by
  pointwise [k0_pay3, pay5_at, kz]
  try simp only [zero_add]

theorem pay8_eq (x0 : Vec Ideal S512x2048 .f32) (x1 : Vec Ideal S1x2048 .f32) (x2 : Vec Ideal S2048x3328 .bf16) (x3 : Vec Ideal S1024x2048 .f32) :
    k0_pay8 (F := Ideal) x0 x1 x2 x3 = k0_pay5 x0 x1 := by
  funext j
  idx_vars j
  rw [pay5_at]
  pointwise [k0_pay8, k0_pay5, Cert.InRefIdeal.Own.nrm]

theorem pay4_at (x : FVec Ideal S1024x2048 .f32) (r : Fin 1024) (j : Fin 2048) : k0_pay4 (F := Ideal) x (ix2 r j) = x (ix2 r j) := by
  pointwise [k0_pay4]

set_option maxHeartbeats 4000000 in
theorem algebraic : Cert.algebraic_InProjIdeal_InRefIdeal := by
  pair_intro
  · run_from Cert.InProjIdeal.Gen.run_main m g
  · run_from Cert.InRefIdeal.Own.run m' g'
    · symm
      refine (Cert.InProjIdeal.Gen.dats m 0 c).arrAt_eq_of_covers 4 _ (by decide +kernel) fun t _ y => ?_
      blk_simp
      rw [after0_4]
      frame_out
      idx_vars y
      have ht : t.val < 16 := lt_of_lt_of_eq t.isLt N_0
      rw [pay6_at, Cert.InRefIdeal.Own.uRef_pt _ _ _ _ ⟨(t.val * 512 + y0) / 2048, by omega⟩ ⟨(t.val * 512 + y0) % 2048, by omega⟩ ⟨0 + y1, by omega⟩ (by blk_simp [idx t] <;> dsimp only <;> omega) (by blk_simp [idx t] <;> dsimp only <;> omega)]
      unfold kz Cert.InRefIdeal.Own.zc
      pointwise [r0_3, r0_5, r0_6, r0_7]
      blk_point [iblk, V, idx t]
    · symm
      refine (Cert.InProjIdeal.Gen.dats m 0 c).arrAt_eq_of_covers 5 _ (by decide +kernel) fun t _ y => ?_
      blk_simp
      rw [after0_5]
      frame_out
      idx_vars y
      have ht : t.val < 16 := lt_of_lt_of_eq t.isLt N_0
      rw [pay8_eq, pay1_at, Cert.InRefIdeal.Own.vRef_pt _ _ _ _ ⟨(t.val * 512 + y0) / 2048, by omega⟩ ⟨(t.val * 512 + y0) % 2048, by omega⟩ ⟨1024 + y1, by omega⟩ (by blk_simp [idx t] <;> dsimp only <;> omega) (by blk_simp [idx t] <;> dsimp only <;> omega)]
      unfold kz Cert.InRefIdeal.Own.zc
      pointwise [r0_3, r0_5, r0_6, r0_7]
      blk_point [iblk, V, idx t]
    · symm
      refine (Cert.InProjIdeal.Gen.dats m 0 c).arrAt_eq_of_covers 6 _ (by decide +kernel) fun t _ y => ?_
      blk_simp
      rw [after0_6]
      frame_out
      idx_vars y
      have ht : t.val < 16 := lt_of_lt_of_eq t.isLt N_0
      rw [pay8_eq, pay2_at, Cert.InRefIdeal.Own.qRef_pt _ _ _ _ ⟨(t.val * 512 + y0) / 2048, by omega⟩ ⟨(t.val * 512 + y0) % 2048, by omega⟩ ⟨2048 + y1, by omega⟩ (by blk_simp [idx t] <;> dsimp only <;> omega) (by blk_simp [idx t] <;> dsimp only <;> omega)]
      unfold kz Cert.InRefIdeal.Own.zc
      pointwise [r0_3, r0_5, r0_6, r0_7]
      blk_point [iblk, V, idx t]
    · symm
      refine (Cert.InProjIdeal.Gen.dats m 0 c).arrAt_eq_of_covers 7 _ (by decide +kernel) fun t _ y => ?_
      blk_simp
      rw [after0_7]
      frame_out
      idx_vars y
      have ht : t.val < 16 := lt_of_lt_of_eq t.isLt N_0
      rw [pay8_eq, pay3_at, Cert.InRefIdeal.Own.kvRef_pt _ _ _ _ ⟨(t.val * 512 + y0) / 2048, by omega⟩ ⟨(t.val * 512 + y0) % 2048, by omega⟩ ⟨3072 + y1, by omega⟩ (by blk_simp [idx t] <;> dsimp only <;> omega) (by blk_simp [idx t] <;> dsimp only <;> omega)]
      unfold kz Cert.InRefIdeal.Own.zc
      pointwise [r0_3, r0_5, r0_6, r0_7]
      blk_point [iblk, V, idx t]
    · symm
      refine (Cert.InProjIdeal.Gen.dats m 0 c).arrAt_eq_of_covers 8 _ (by decide +kernel) fun t _ y => ?_
      blk_simp
      rw [after0_8]
      frame_out
      idx_vars y
      have ht : t.val < 16 := lt_of_lt_of_eq t.isLt N_0
      rw [pay4_at, Cert.InRefIdeal.Own.dnRef_pt _ _ ⟨t.val * 1024 + y0, by omega⟩ y1 (by blk_simp [idx t] <;> dsimp only <;> omega) (by blk_simp [idx t] <;> dsimp only <;> omega)]
      blk_point [iblk, V, idx t]

end Cert.InProjIdeal.Own

end
-- ==== Proof.Own.OutRefPure.lean ====
module
public import proofs.«01_k».proof.Proof.Gen.OutRefIdeal.Run
public import Idealize.ShloMosaic.Lib.Pointwise
@[expose] public section
set_option maxRecDepth 16384
noncomputable section
namespace Cert.OutRefIdeal.Own
open Cert.OutRefIdeal Cert.OutRefIdeal.Gen Idealize.ShloMosaic Idealize.ShloMosaic.TcCoe Idealize.SL.Sem

/-- The residual after the output projection. -/
def aO (Y : FVec Ideal S8192x2048 .bf16) (X : FVec Ideal S4x2048x2048 .f32) (Wo : FVec Ideal S2048x2048 .bf16) : FVec Ideal S4x2048x2048 .f32 :=
  addf X (Host.dotGeneral dot_S4x2048x2048_S2048x2048_S4x2048x2048_2_0_01_1_n_n none (shapeCast _ (extf .f32 Y bitsLt_bf16_f32) shapeCasts_S8192x2048_S4x2048x2048) (extf .f32 Wo bitsLt_bf16_f32))

/-- The normalised rows, flattened. -/
def hO (A : FVec Ideal S4x2048x2048 .f32) (G : FVec Ideal S1x2048 .f32) : FVec Ideal S8192x2048 .f32 :=
  shapeCast _ (mulf (mulf A (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf A A) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast _ G shapeCasts_S1x2048_S2048)))) shapeCasts_S4x2048x2048_S8192x2048

/-- The queries. -/
def qO (H : FVec Ideal S8192x2048 .f32) (Wq : FVec Ideal S2048x2048 .bf16) : FVec Ideal S8192x2048 .f32 :=
  Host.dotGeneral dot_S8192x2048_S2048x2048_S8192x2048_1_0_0_1_n_n none H (extf .f32 Wq bitsLt_bf16_f32)

/-- The results, from these. -/
def x1Ref (A : FVec Ideal S4x2048x2048 .f32) : FVec Ideal S8192x2048 .f32 := shapeCast _ A shapeCasts_S4x2048x2048_S8192x2048
def htRef (H : FVec Ideal S8192x2048 .f32) : FVec Ideal S2048x8192 .bf16 :=
  truncf .bf16 (transpose S2048x8192 [1, 0] H transposes_S8192x2048_S2048x8192_1_0) bitsLt_bf16_f32
def s1Ref (Q : FVec Ideal S8192x2048 .f32) (K : FVec Ideal S1x2x128x128 .f32) : FVec Ideal S8x128x8192 .f32 :=
  transpose S8x128x8192 [1, 2, 0] (Host.dotGeneral dot_S8192x8x128_S128x128_S8192x8x128_2_1_01_0_n_n none (shapeCast _ (extractStridedSlice S8192x8x1x128 ![0, 0, 0, 0] (shapeCast _ Q shapeCasts_S8192x2048_S8192x8x2x128) slices_S8192x8x2x128_S8192x8x1x128_0_0_0_0) shapeCasts_S8192x8x1x128_S8192x8x128) (shapeCast _ (extractStridedSlice S1x1x128x128 ![0, 0, 0, 0] K slices_S1x2x128x128_S1x1x128x128_0_0_0_0) shapeCasts_S1x1x128x128_S128x128)) transposes_S8192x8x128_S8x128x8192_1_2_0
def s2Ref (Q : FVec Ideal S8192x2048 .f32) (K : FVec Ideal S1x2x128x128 .f32) : FVec Ideal S8x128x8192 .f32 :=
  transpose S8x128x8192 [1, 2, 0] (Host.dotGeneral dot_S8192x8x128_S128x128_S8192x8x128_2_1_01_0_n_n none (shapeCast _ (extractStridedSlice S8192x8x1x128 ![0, 0, 1, 0] (shapeCast _ Q shapeCasts_S8192x2048_S8192x8x2x128) slices_S8192x8x2x128_S8192x8x1x128_0_0_1_0) shapeCasts_S8192x8x1x128_S8192x8x128) (shapeCast _ (extractStridedSlice S1x1x128x128 ![0, 1, 0, 0] K slices_S1x2x128x128_S1x1x128x128_0_1_0_0) shapeCasts_S1x1x128x128_S128x128)) transposes_S8192x8x128_S8x128x8192_1_2_0
def upRef (U : FVec Ideal S1x16384x2048 .f32) : FVec Ideal S16x2048x1024 .bf16 :=
  transpose S16x2048x1024 [0, 2, 1] (truncf .bf16 (shapeCast _ (shapeCast _ U shapeCasts_S1x16384x2048_S16384x2048) shapeCasts_S16384x2048_S16x1024x2048) bitsLt_bf16_f32) transposes_S16x1024x2048_S16x2048x1024_0_2_1

/-- One normalised entry of a row. -/
def hc (f : Fin 2048 → EReal) (g : Fin 2048 → EReal) (d : Fin 2048) : EReal :=
  f d * Ideal.rsqrt (Ideal.div (∑ k : Fin 2048, f k * f k) (Ideal.ofBits .f32 0x45000000#32) + Ideal.ofBits .f32 0x358637BD#32) * g d

/-- One entry of the residual, by row. -/
def xc (Y : FVec Ideal S8192x2048 .bf16) (X : FVec Ideal S4x2048x2048 .f32) (Wo : FVec Ideal S2048x2048 .bf16) (i : Fin 8192) (d : Fin 2048) : EReal :=
  X (ix3 ⟨i.val / 2048, by omega⟩ ⟨i.val % 2048, by omega⟩ d) + ∑ k : Fin 2048, Y (ix2 i k) * Wo (ix2 k d)

/-- A read at an index of known coordinates. -/
theorem at2 {n p : ℕ} (f : (⟨2, ![n, p]⟩ : Shape).Idx → EReal) (J : (⟨2, ![n, p]⟩ : Shape).Idx) (i : Fin n) (j : Fin p) (h0 : (J 0 : ℕ) = i.val) (h1 : (J 1 : ℕ) = j.val) :
    f J = f (ix2 i j) := by
  rw [eq_ix2 J]
  exact congrArg f (congrArg₂ ix2 (Fin.ext h0) (Fin.ext h1))

/-- The same, of three coordinates. -/
theorem at3 {n p q : ℕ} (f : (⟨3, ![n, p, q]⟩ : Shape).Idx → EReal) (J : (⟨3, ![n, p, q]⟩ : Shape).Idx) (i : Fin n) (j : Fin p) (k : Fin q) (h0 : (J 0 : ℕ) = i.val) (h1 : (J 1 : ℕ) = j.val) (h2 : (J 2 : ℕ) = k.val) :
    f J = f (ix3 i j k) := by
  rw [eq_ix3 J]
  have e0 : J 0 = i := Fin.ext h0
  have e1 : J 1 = j := Fin.ext h1
  have e2 : J 2 = k := Fin.ext h2
  rw [e0, e1, e2]

theorem aO_at (Y : FVec Ideal S8192x2048 .bf16) (X : FVec Ideal S4x2048x2048 .f32) (Wo : FVec Ideal S2048x2048 .bf16) (i : Fin 8192) (d : Fin 2048) :
    aO Y X Wo (ix3 ⟨i.val / 2048, by omega⟩ ⟨i.val % 2048, by omega⟩ d) = xc Y X Wo i d := by
  have e : ∀ h, (⟨i.val / 2048 * 2048 + i.val % 2048, h⟩ : Fin 8192) = i := fun h => Fin.ext (by simp only; omega)
  pointwise [aO, xc]

theorem x1Ref_at (Y : FVec Ideal S8192x2048 .bf16) (X : FVec Ideal S4x2048x2048 .f32) (Wo : FVec Ideal S2048x2048 .bf16) (i : Fin 8192) (d : Fin 2048) :
    x1Ref (aO Y X Wo) (ix2 i d) = xc Y X Wo i d := by
  rw [← aO_at]
  pointwise [x1Ref]

theorem hO_at (Y : FVec Ideal S8192x2048 .bf16) (X : FVec Ideal S4x2048x2048 .f32) (Wo : FVec Ideal S2048x2048 .bf16) (G : FVec Ideal S1x2048 .f32) (i : Fin 8192) (d : Fin 2048) :
    hO (aO Y X Wo) G (ix2 i d) = hc (xc Y X Wo i) (fun k => G (ix2 0 k)) d := by
  have e : xc Y X Wo i = fun d => aO Y X Wo (ix3 ⟨i.val / 2048, by omega⟩ ⟨i.val % 2048, by omega⟩ d) := funext fun d => (aO_at Y X Wo i d).symm
  rw [e]
  generalize aO Y X Wo = A
  pointwise [hO, hc]
  try simp only [zero_add]

theorem htRef_at (H : FVec Ideal S8192x2048 .f32) (d : Fin 2048) (i : Fin 8192) : htRef H (ix2 d i) = H (ix2 i d) := by
  pointwise [htRef]

theorem qO_at (H : FVec Ideal S8192x2048 .f32) (Wq : FVec Ideal S2048x2048 .bf16) (i : Fin 8192) (j : Fin 2048) :
    qO H Wq (ix2 i j) = ∑ k : Fin 2048, H (ix2 i k) * Wq (ix2 k j) := by
  pointwise [qO]

theorem s1Ref_at (Q : FVec Ideal S8192x2048 .f32) (K : FVec Ideal S1x2x128x128 .f32) (h : Fin 8) (n : Fin 128) (i : Fin 8192) :
    s1Ref Q K (ix3 h n i) = ∑ d : Fin 128, Q (ix2 i ⟨h.val * 256 + d.val, by omega⟩) * K (ix4 0 0 n d) := by
  pointwise [s1Ref]

theorem s2Ref_at (Q : FVec Ideal S8192x2048 .f32) (K : FVec Ideal S1x2x128x128 .f32) (h : Fin 8) (n : Fin 128) (i : Fin 8192) :
    s2Ref Q K (ix3 h n i) = ∑ d : Fin 128, Q (ix2 i ⟨h.val * 256 + 128 + d.val, by omega⟩) * K (ix4 0 1 n d) := by
  pointwise [s2Ref]

theorem upRef_at (U : FVec Ideal S1x16384x2048 .f32) (e : Fin 16) (d : Fin 2048) (k : Fin 1024) :
    upRef U (ix3 e d k) = U (ix3 0 ⟨e.val * 1024 + k.val, by omega⟩ d) := by
  pointwise [upRef]

/-- The reference's run, its results by name. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = x1Ref (aO (m ((c.tc : Thread nD τ).loc main_arg0)) (m ((c.tc : Thread nD τ).loc main_arg1)) (m ((c.tc : Thread nD τ).loc main_arg2)))
      ∧ r.2.mem ((c.tc : Thread nD τ).loc main_v38) = htRef (hO (aO (m ((c.tc : Thread nD τ).loc main_arg0)) (m ((c.tc : Thread nD τ).loc main_arg1)) (m ((c.tc : Thread nD τ).loc main_arg2))) (m ((c.tc : Thread nD τ).loc main_arg3)))
      ∧ r.2.mem ((c.tc : Thread nD τ).loc main_v39) = s1Ref (qO (hO (aO (m ((c.tc : Thread nD τ).loc main_arg0)) (m ((c.tc : Thread nD τ).loc main_arg1)) (m ((c.tc : Thread nD τ).loc main_arg2))) (m ((c.tc : Thread nD τ).loc main_arg3))) (m ((c.tc : Thread nD τ).loc main_arg4))) (m ((c.tc : Thread nD τ).loc main_arg5))
      ∧ r.2.mem ((c.tc : Thread nD τ).loc main_v40) = s2Ref (qO (hO (aO (m ((c.tc : Thread nD τ).loc main_arg0)) (m ((c.tc : Thread nD τ).loc main_arg1)) (m ((c.tc : Thread nD τ).loc main_arg2))) (m ((c.tc : Thread nD τ).loc main_arg3))) (m ((c.tc : Thread nD τ).loc main_arg4))) (m ((c.tc : Thread nD τ).loc main_arg5))
      ∧ r.2.mem ((c.tc : Thread nD τ).loc main_v41) = upRef (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h => h) (Value.run m ρ)

end Cert.OutRefIdeal.Own
end
-- ==== Proof.Own.OutValue.lean ====
module

public import proofs.«01_k».proof.Defs
public import proofs.«01_k».proof.Proof.Gen.OutProjIdeal.Frame
public import proofs.«01_k».proof.Proof.Own.OutRefPure
public import Idealize.ShloMosaic.Lib.Claim
public import Idealize.ShloMosaic.Lib.Pointwise
public import Idealize.ShloMosaic.Lib.Pipeline.ValueKit

@[expose] public section

set_option maxRecDepth 16384

noncomputable section

namespace Cert.OutProjIdeal.Own

open Cert.OutProjIdeal Cert.OutProjIdeal.Gen Idealize.ShloMosaic Idealize.ShloMosaic.TcCoe Idealize.SL.Sem
open Idealize.ShloMosaic.Pipeline (Dat)

/-- Where each window's block lies at grid point `t`. -/
theorem idx : ∀ t : Fin cfg0.N, win0_0.index t = ![t.val, 0] ∧ win0_1.index t = ![t.val, 0]
    ∧ win0_2.index t = ![0, 0] ∧ win0_3.index t = ![0, 0] ∧ win0_4.index t = ![0, 0]
    ∧ win0_5.index t = ![0, 0, 0] ∧ win0_6.index t = ![t.val, 0] ∧ win0_7.index t = ![t.val, 0]
    ∧ win0_8.index t = ![0, t.val] ∧ win0_9.index t = ![0, 0, t.val] ∧ win0_10.index t = ![0, 0, t.val]
    ∧ win0_11.index t = ![t.val / 2, 0, t.val % 2] := (by decide +kernel : ∀ t : Fin grid0.N, _)

/-- One entry of the residual, at the kernel's operands. -/
def kx (x : FVec Ideal S256x2048 .f32) (y : FVec Ideal S256x2048 .bf16) (w : FVec Ideal S2048x2048 .bf16) (r : Fin 256) (d : Fin 2048) : EReal :=
  x (ix2 r d) + ∑ k : Fin 2048, y (ix2 r k) * w (ix2 k d)

theorem pay3_at (x : FVec Ideal S256x2048 .f32) (y : FVec Ideal S256x2048 .bf16) (w : FVec Ideal S2048x2048 .bf16) (r : Fin 256) (d : Fin 2048) :
    k0_pay3 (F := Ideal) x y w (ix2 r d) = kx x y w r d := by
  pointwise [k0_pay3, kx]
  try simp only [zero_add]

theorem pay4_at (x : FVec Ideal S256x2048 .f32) (y : FVec Ideal S256x2048 .bf16) (w : FVec Ideal S2048x2048 .bf16) (g : FVec Ideal S1x2048 .f32) (r : Fin 256) (d : Fin 2048) :
    k0_pay4 (F := Ideal) x y w g (ix2 r d) = Cert.OutRefIdeal.Own.hc (kx x y w r) (fun k => g (ix2 0 k)) d := by
  pointwise [k0_pay4, pay3_at, Cert.OutRefIdeal.Own.hc]
  try simp only [zero_add]

theorem pay5_at (x : FVec Ideal S256x2048 .f32) (y : FVec Ideal S256x2048 .bf16) (w : FVec Ideal S2048x2048 .bf16) (g : FVec Ideal S1x2048 .f32) (r : Fin 256) (d : Fin 2048) :
    k0_pay5 (F := Ideal) x y w g (ix2 d r) = Cert.OutRefIdeal.Own.hc (kx x y w r) (fun k => g (ix2 0 k)) d := by
  pointwise [k0_pay5, pay4_at]

theorem pay2_at (u : FVec Ideal S512x2048 .f32) (d : Fin 2048) (k : Fin 512) :
    k0_pay2 (F := Ideal) u (ix3 0 d k) = u (ix2 k d) := by
  pointwise [k0_pay2]

/-- The queries of the block, as a tensor. -/
def kq (x0 : Vec Ideal S256x2048 .bf16) (x1 : Vec Ideal S256x2048 .f32) (x2 : Vec Ideal S2048x2048 .bf16) (x3 : Vec Ideal S1x2048 .f32) (x4 : Vec Ideal S2048x2048 .bf16) : FVec Ideal S256x2048 .bf16 :=
  k0_pay6 (k0_pay4 x1 x0 x2 x3) x4 (constant S256x2048 .f32 0x00000000#32)

theorem kq_at (x0 : Vec Ideal S256x2048 .bf16) (x1 : Vec Ideal S256x2048 .f32) (x2 : Vec Ideal S2048x2048 .bf16) (x3 : Vec Ideal S1x2048 .f32) (x4 : Vec Ideal S2048x2048 .bf16) (r : Fin 256) (j : Fin 2048) :
    kq x0 x1 x2 x3 x4 (ix2 r j) = ∑ k : Fin 2048, Cert.OutRefIdeal.Own.hc (kx (x1 : FVec Ideal S256x2048 .f32) x0 x2 r) (fun k => (x3 : FVec Ideal S1x2048 .f32) (ix2 0 k)) k * (x4 : FVec Ideal S2048x2048 .bf16) (ix2 k j) := by
  pointwise [kq, k0_pay6, pay4_at]
  try simp only [zero_add]

theorem pay27_eq (x0 : Vec Ideal S256x2048 .bf16) (x1 : Vec Ideal S256x2048 .f32) (x2 : Vec Ideal S2048x2048 .bf16) (x3 : Vec Ideal S1x2048 .f32) (x4 : Vec Ideal S2048x2048 .bf16) (x5 : Vec Ideal S2x128x128 .bf16) (x6 : Vec Ideal S512x2048 .f32) :
    k0_pay27 (F := Ideal) x0 x1 x2 x3 x4 x5 x6 = k0_pay4 x1 x0 x2 x3 := by
  funext j
  idx_vars j
  rw [pay4_at]
  unfold k0_pay27
  rw [pay4_at]
  unfold kx
  pointwise [r0_2, r0_3, r0_4]

theorem pay28_eq (x0 : Vec Ideal S256x2048 .bf16) (x1 : Vec Ideal S256x2048 .f32) (x2 : Vec Ideal S2048x2048 .bf16) (x3 : Vec Ideal S1x2048 .f32) (x4 : Vec Ideal S2048x2048 .bf16) (x5 : Vec Ideal S2x128x128 .bf16) (x6 : Vec Ideal S512x2048 .f32) :
    k0_pay28 (F := Ideal) x0 x1 x2 x3 x4 x5 x6 = kq x0 x1 x2 x3 x4 := by
  funext j
  idx_vars j
  unfold k0_pay28 kq k0_pay26
  rw [pay27_eq]
  pointwise [k0_pay6, r0_3]

theorem pay6_eq (x0 : Vec Ideal S256x2048 .bf16) (x1 : Vec Ideal S256x2048 .f32) (x2 : Vec Ideal S2048x2048 .bf16) (x3 : Vec Ideal S1x2048 .f32) (x4 : Vec Ideal S2048x2048 .bf16) (x5 : Vec Ideal S2x128x128 .bf16) (x6 : Vec Ideal S512x2048 .f32) :
    k0_pay6 (F := Ideal) (k0_pay27 x0 x1 x2 x3 x4 x5 x6) (View.ld x4 r0_3) (k0_pay26 x0 x1 x2 x3 x4 x5 x6) = kq x0 x1 x2 x3 x4 :=
  pay28_eq x0 x1 x2 x3 x4 x5 x6

theorem out9_at (x0 : Vec Ideal S256x2048 .bf16) (x1 : Vec Ideal S256x2048 .f32) (x2 : Vec Ideal S2048x2048 .bf16) (x3 : Vec Ideal S1x2048 .f32) (x4 : Vec Ideal S2048x2048 .bf16) (x5 : Vec Ideal S2x128x128 .bf16) (x6 : Vec Ideal S512x2048 .f32)
    (h : Fin 8) (n : Fin 128) (r : Fin 256) :
    out0_9 (F := Ideal) x0 x1 x2 x3 x4 x5 x6 (ix3 h n r) = ∑ d : Fin 128, (x5 : FVec Ideal S2x128x128 .bf16) (ix3 0 n d) * kq x0 x1 x2 x3 x4 (ix2 r ⟨h.val * 256 + d.val, by omega⟩) := by
  unfold out0_9
  canon_tiles x e
  all_goals (change (h : ℕ) = _ at e0; change (n : ℕ) = _ at e1; change (r : ℕ) = _ at e2; pointwise [k0_pay24, k0_pay22, k0_pay19, k0_pay17, k0_pay14, k0_pay12, k0_pay9, k0_pay7, pay6_eq, pay28_eq, r0_6]; generalize kq x0 x1 x2 x3 x4 = Q; blk_point [])

theorem out10_at (x0 : Vec Ideal S256x2048 .bf16) (x1 : Vec Ideal S256x2048 .f32) (x2 : Vec Ideal S2048x2048 .bf16) (x3 : Vec Ideal S1x2048 .f32) (x4 : Vec Ideal S2048x2048 .bf16) (x5 : Vec Ideal S2x128x128 .bf16) (x6 : Vec Ideal S512x2048 .f32)
    (h : Fin 8) (n : Fin 128) (r : Fin 256) :
    out0_10 (F := Ideal) x0 x1 x2 x3 x4 x5 x6 (ix3 h n r) = ∑ d : Fin 128, (x5 : FVec Ideal S2x128x128 .bf16) (ix3 1 n d) * kq x0 x1 x2 x3 x4 (ix2 r ⟨h.val * 256 + 128 + d.val, by omega⟩) := by
  unfold out0_10
  canon_tiles x e
  all_goals (change (h : ℕ) = _ at e0; change (n : ℕ) = _ at e1; change (r : ℕ) = _ at e2; pointwise [k0_pay1, k0_pay25, k0_pay23, k0_pay21, k0_pay20, k0_pay18, k0_pay16, k0_pay15, k0_pay13, k0_pay11, k0_pay10, k0_pay8, pay6_eq, pay28_eq, r0_8]; generalize kq x0 x1 x2 x3 x4 = Q; blk_point [])

/-- The block's residual is the rows' residual. -/
theorem kx_eq (m : (ℓ : Loc nD τ sig) → Buf (Elt Ideal) ℓ) (c : Dev nD) (t : Fin cfg0.N) (r : Fin 256) (d : Fin 2048) (i : Fin 8192) (hi : i.val = t.val * 256 + r.val) :
    kx (iblk m c 1 t) (iblk m c 0 t) (iblk m c 2 t) r d
      = Cert.OutRefIdeal.Own.xc (m ((c.tc : Thread nD τ).loc main_arg0)) (m ((c.tc : Thread nD τ).loc main_arg1)) (m ((c.tc : Thread nD τ).loc main_arg2)) i d := by
  have ht : t.val < 32 := lt_of_lt_of_eq t.isLt N_0
  unfold kx Cert.OutRefIdeal.Own.xc
  blk_point [iblk, V, idx t]

theorem hc_eq (m : (ℓ : Loc nD τ sig) → Buf (Elt Ideal) ℓ) (c : Dev nD) (t : Fin cfg0.N) (r : Fin 256) (k : Fin 2048) (i : Fin 8192) (hi : i.val = t.val * 256 + r.val) :
    Cert.OutRefIdeal.Own.hc (kx (iblk m c 1 t) (iblk m c 0 t) (iblk m c 2 t) r) (fun k => (iblk m c 3 t : FVec Ideal S1x2048 .f32) (ix2 0 k)) k
      = Cert.OutRefIdeal.Own.hc (Cert.OutRefIdeal.Own.xc (m ((c.tc : Thread nD τ).loc main_arg0)) (m ((c.tc : Thread nD τ).loc main_arg1)) (m ((c.tc : Thread nD τ).loc main_arg2)) i) (fun k => (m ((c.tc : Thread nD τ).loc main_arg3) : FVec Ideal S1x2048 .f32) (ix2 0 k)) k := by
  have e : kx (iblk m c 1 t) (iblk m c 0 t) (iblk m c 2 t) r = Cert.OutRefIdeal.Own.xc (m ((c.tc : Thread nD τ).loc main_arg0)) (m ((c.tc : Thread nD τ).loc main_arg1)) (m ((c.tc : Thread nD τ).loc main_arg2)) i := funext fun d => kx_eq m c t r d i hi
  have eg : (fun k => (iblk m c 3 t : FVec Ideal S1x2048 .f32) (ix2 0 k)) = fun k => (m ((c.tc : Thread nD τ).loc main_arg3) : FVec Ideal S1x2048 .f32) (ix2 0 k) := by
    funext k
    blk_point [iblk, V, idx t]
  rw [e, eg]

theorem kq_eq (m : (ℓ : Loc nD τ sig) → Buf (Elt Ideal) ℓ) (c : Dev nD) (t : Fin cfg0.N) (r : Fin 256) (j : Fin 2048) (i : Fin 8192) (hi : i.val = t.val * 256 + r.val) :
    kq (iblk m c 0 t) (iblk m c 1 t) (iblk m c 2 t) (iblk m c 3 t) (iblk m c 4 t) (ix2 r j)
      = Cert.OutRefIdeal.Own.qO (Cert.OutRefIdeal.Own.hO (Cert.OutRefIdeal.Own.aO (m ((c.tc : Thread nD τ).loc main_arg0)) (m ((c.tc : Thread nD τ).loc main_arg1)) (m ((c.tc : Thread nD τ).loc main_arg2))) (m ((c.tc : Thread nD τ).loc main_arg3))) (m ((c.tc : Thread nD τ).loc main_arg4)) (ix2 i j) := by
  rw [kq_at, Cert.OutRefIdeal.Own.qO_at]
  refine Fin.sum_fin_congr fun k => ?_
  rw [Cert.OutRefIdeal.Own.hO_at, hc_eq m c t r k i hi]
  blk_point [iblk, V, idx t]

set_option maxHeartbeats 4000000 in
theorem algebraic : Cert.algebraic_OutProjIdeal_OutRefIdeal := by
  pair_intro
  · run_from Cert.OutProjIdeal.Gen.run_main m g
  · run_from Cert.OutRefIdeal.Own.run m' g'
    · symm
      refine (Cert.OutProjIdeal.Gen.dats m 0 c).arrAt_eq_of_covers 7 _ (by decide +kernel) fun t _ y => ?_
      blk_simp
      rw [after0_7]
      frame_out
      idx_vars y
      have ht : t.val < 32 := lt_of_lt_of_eq t.isLt N_0
      refine Eq.trans ?_ (Cert.OutRefIdeal.Own.at2 _ _ ⟨t.val * 256 + y0.val, by omega⟩ y1 (by blk_simp [idx t] <;> dsimp only <;> omega) (by blk_simp [idx t] <;> dsimp only <;> omega)).symm
      rw [pay3_at, Cert.OutRefIdeal.Own.x1Ref_at]
      exact kx_eq m c t y0 y1 _ rfl
    · symm
      refine (Cert.OutProjIdeal.Gen.dats m 0 c).arrAt_eq_of_covers 8 _ (by decide +kernel) fun t _ y => ?_
      blk_simp
      rw [after0_8]
      frame_out
      idx_vars y
      have ht : t.val < 32 := lt_of_lt_of_eq t.isLt N_0
      refine Eq.trans ?_ (Cert.OutRefIdeal.Own.at2 _ _ y0 ⟨t.val * 256 + y1.val, by omega⟩ (by blk_simp [idx t] <;> dsimp only <;> omega) (by blk_simp [idx t] <;> dsimp only <;> omega)).symm
      rw [pay5_at, Cert.OutRefIdeal.Own.htRef_at, Cert.OutRefIdeal.Own.hO_at]
      exact hc_eq m c t y1 y0 _ rfl
    · symm
      refine (Cert.OutProjIdeal.Gen.dats m 0 c).arrAt_eq_of_covers 9 _ (by decide +kernel) fun t _ y => ?_
      blk_simp
      rw [after0_9]
      idx_vars y
      have ht : t.val < 32 := lt_of_lt_of_eq t.isLt N_0
      refine Eq.trans ?_ (Cert.OutRefIdeal.Own.at3 _ _ y0 y1 ⟨t.val * 256 + y2.val, by omega⟩ (by blk_simp [idx t] <;> dsimp only <;> omega) (by blk_simp [idx t] <;> dsimp only <;> omega) (by blk_simp [idx t] <;> dsimp only <;> omega)).symm
      rw [out9_at, Cert.OutRefIdeal.Own.s1Ref_at]
      refine Fin.sum_fin_congr fun d => ?_
      rw [mul_comm, kq_eq m c t y2 _ ⟨t.val * 256 + y2.val, by omega⟩ rfl]
      blk_point [iblk, V, idx t]
    · symm
      refine (Cert.OutProjIdeal.Gen.dats m 0 c).arrAt_eq_of_covers 10 _ (by decide +kernel) fun t _ y => ?_
      blk_simp
      rw [after0_10]
      idx_vars y
      have ht : t.val < 32 := lt_of_lt_of_eq t.isLt N_0
      refine Eq.trans ?_ (Cert.OutRefIdeal.Own.at3 _ _ y0 y1 ⟨t.val * 256 + y2.val, by omega⟩ (by blk_simp [idx t] <;> dsimp only <;> omega) (by blk_simp [idx t] <;> dsimp only <;> omega) (by blk_simp [idx t] <;> dsimp only <;> omega)).symm
      rw [out10_at, Cert.OutRefIdeal.Own.s2Ref_at]
      refine Fin.sum_fin_congr fun d => ?_
      rw [mul_comm, kq_eq m c t y2 _ ⟨t.val * 256 + y2.val, by omega⟩ rfl]
      blk_point [iblk, V, idx t]
    · symm
      refine (Cert.OutProjIdeal.Gen.dats m 0 c).arrAt_eq_of_covers 11 _ (by decide +kernel) fun t _ y => ?_
      blk_simp
      rw [after0_11]
      frame_out
      idx_vars y
      have ht : t.val < 32 := lt_of_lt_of_eq t.isLt N_0
      refine Eq.trans ?_ (Cert.OutRefIdeal.Own.at3 _ _ ⟨t.val / 2, by omega⟩ y1 ⟨t.val % 2 * 512 + y2.val, by omega⟩ (by blk_simp [idx t] <;> dsimp only <;> omega) (by blk_simp [idx t] <;> dsimp only <;> omega) (by blk_simp [idx t] <;> dsimp only <;> omega)).symm
      obtain rfl : y0 = 0 := Subsingleton.elim _ _
      rw [pay2_at, Cert.OutRefIdeal.Own.upRef_at]
      blk_point [iblk, V, idx t]
end Cert.OutProjIdeal.Own
end
-- ==== Proof.Own.MixRefPure.lean ====
module
public import proofs.«01_k».proof.Defs
public import proofs.«01_k».proof.Proof.Gen.ReferenceIdeal
public import Idealize.ShloMosaic.Lib.StableHlo.Run
public import Idealize.ShloMosaic.Lib.Pipeline.Frame
public import Idealize.ShloMosaic.Lib.Pointwise
@[expose] public section
set_option maxRecDepth 16384
noncomputable section
namespace Cert.ReferenceIdeal.Own
open Cert.ReferenceIdeal Cert.ReferenceIdeal.Gen Idealize.ShloMosaic Idealize.ShloMosaic.TcCoe Idealize.SL.Sem Idealize.ShloMosaic.StableHlo

def castQ (a2 : FVec Ideal S8192x1024 .bf16) : FVec Ideal S4x2048x1024 .f32 :=
  (shapeCast S4x2048x1024 (extf .f32 a2 bitsLt_bf16_f32) shapeCasts_S8192x1024_S4x2048x1024)

def castKV (a3 : FVec Ideal S8192x256 .bf16) : FVec Ideal S4x2048x256 .f32 :=
  (shapeCast S4x2048x256 (extf .f32 a3 bitsLt_bf16_f32) shapeCasts_S8192x256_S4x2048x256)

def gainR (a4 : FVec Ideal S1x8x128 .f32) : FVec Ideal S8x128 .f32 :=
  (shapeCast S8x128 a4 shapeCasts_S1x8x128_S8x128)

def shiftR (a5 : FVec Ideal S1x8x128 .f32) : FVec Ideal S8x128 .f32 :=
  (shapeCast S8x128 a5 shapeCasts_S1x8x128_S8x128)

def spatR (a6 : FVec Ideal S1x8x128x128 .f32) : FVec Ideal S8x128x128 .f32 :=
  (shapeCast S8x128x128 a6 shapeCasts_S1x8x128x128_S8x128x128)

def biasR (a7 : FVec Ideal S1x8x128 .f32) : FVec Ideal S8x128 .f32 :=
  (shapeCast S8x128 a7 shapeCasts_S1x8x128_S8x128)

def gateU (a0 : FVec Ideal S8192x1024 .bf16) : FVec Ideal S4x16x128x8x128 .f32 :=
  (shapeCast S4x16x128x8x128 (shapeCast S4x2048x1024 (extf .f32 a0 bitsLt_bf16_f32) shapeCasts_S8192x1024_S4x2048x1024) shapeCasts_S4x2048x1024_S4x16x128x8x128)

def gateV (a1 : FVec Ideal S8192x1024 .bf16) : FVec Ideal S4x16x128x8x128 .f32 :=
  (shapeCast S4x16x128x8x128 (shapeCast S4x2048x1024 (extf .f32 a1 bitsLt_bf16_f32) shapeCasts_S8192x1024_S4x2048x1024) shapeCasts_S4x2048x1024_S4x16x128x8x128)

def meanR (v13 : FVec Ideal S4x16x128x8x128 .f32) : FVec Ideal S4x16x128x8x1 .f32 :=
  (Host.divf (broadcastInDim S4x16x128x8x1 ![0, 1, 2, 3] bcast_S4x16x128x8_S4x16x128x8x1_0_1_2_3 (Host.reduceAdd v13 (constant S_ .f32 0x00000000#32) reducesTo_S4x16x128x8x128_S4x16x128x8_d4 h_S_)) (broadcastInDim S4x16x128x8x1 ![] bcast_S_S4x16x128x8x1 (constant S_ .f32 0x43000000#32)))

def varR (v13 : FVec Ideal S4x16x128x8x128 .f32) (v17 : FVec Ideal S4x16x128x8x1 .f32) : FVec Ideal S4x16x128x8x1 .f32 :=
  (Host.divf (broadcastInDim S4x16x128x8x1 ![0, 1, 2, 3] bcast_S4x16x128x8_S4x16x128x8x1_0_1_2_3 (Host.reduceAdd (mulf (subf v13 (broadcastInDim S4x16x128x8x128 ![0, 1, 2, 3, 4] bcast_S4x16x128x8x1_S4x16x128x8x128_0_1_2_3_4 v17)) (subf v13 (broadcastInDim S4x16x128x8x128 ![0, 1, 2, 3, 4] bcast_S4x16x128x8x1_S4x16x128x8x128_0_1_2_3_4 v17))) (constant S_ .f32 0x00000000#32) reducesTo_S4x16x128x8x128_S4x16x128x8_d4 h_S_)) (broadcastInDim S4x16x128x8x1 ![] bcast_S_S4x16x128x8x1 (constant S_ .f32 0x43000000#32)))

def normR (v13 : FVec Ideal S4x16x128x8x128 .f32) (v17 : FVec Ideal S4x16x128x8x1 .f32) (v24 : FVec Ideal S4x16x128x8x1 .f32) (v8 : FVec Ideal S8x128 .f32) (v9 : FVec Ideal S8x128 .f32) : FVec Ideal S4x16x128x8x128 .f32 :=
  (addf (mulf (mulf (subf v13 (broadcastInDim S4x16x128x8x128 ![0, 1, 2, 3, 4] bcast_S4x16x128x8x1_S4x16x128x8x128_0_1_2_3_4 v17)) (broadcastInDim S4x16x128x8x128 ![0, 1, 2, 3, 4] bcast_S4x16x128x8x1_S4x16x128x8x128_0_1_2_3_4 (Host.rsqrt (addf v24 (broadcastInDim S4x16x128x8x1 ![] bcast_S_S4x16x128x8x1 (constant S_ .f32 0x358637BD#32)))))) (broadcastInDim S4x16x128x8x128 ![0, 1, 2, 3, 4] bcast_S1x1x1x8x128_S4x16x128x8x128_0_1_2_3_4 (broadcastInDim S1x1x1x8x128 ![3, 4] bcast_S8x128_S1x1x1x8x128_3_4 v8))) (broadcastInDim S4x16x128x8x128 ![0, 1, 2, 3, 4] bcast_S1x1x1x8x128_S4x16x128x8x128_0_1_2_3_4 (broadcastInDim S1x1x1x8x128 ![3, 4] bcast_S8x128_S1x1x1x8x128_3_4 v9)))

def lowR (v10 : FVec Ideal S8x128x128 .f32) : FVec Ideal S8x128x128 .f32 :=
  (select (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) v10 (broadcastInDim S8x128x128 ![] bcast_S_S8x128x128 (constant S_ .f32 0x00000000#32)))

def gatedR (v12 : FVec Ideal S4x16x128x8x128 .f32) (v37 : FVec Ideal S4x16x128x8x128 .f32) (v42 : FVec Ideal S8x128x128 .f32) (v11 : FVec Ideal S8x128 .f32) : FVec Ideal S4x2048x1024 .f32 :=
  (shapeCast S4x2048x1024 (mulf v12 (addf (transpose S4x16x128x8x128 [1, 2, 4, 0, 3] (Host.dotGeneral dot_S4x16x128x8x128_S8x128x128_S8x4x16x128x128_2_2_014_1_3_0 none v37 v42) transposes_S8x4x16x128x128_S4x16x128x8x128_1_2_4_0_3) (broadcastInDim S4x16x128x8x128 ![0, 1, 2, 3, 4] bcast_S1x1x128x8x1_S4x16x128x8x128_0_1_2_3_4 (broadcastInDim S1x1x128x8x1 ![2, 3] bcast_S128x8_S1x1x128x8x1_2_3 (transpose S128x8 [1, 0] v11 transposes_S8x128_S128x8_1_0))))) shapeCasts_S4x16x128x8x128_S4x2048x1024)

def sinkR (a8 : FVec Ideal S1x16 .f32) : FVec Ideal S16 .f32 :=
  (shapeCast S16 a8 shapeCasts_S1x16_S16)

def qryR (v5 : FVec Ideal S4x2048x1024 .f32) : FVec Ideal S4x16x128x2x8x64 .f32 :=
  (shapeCast S4x16x128x2x8x64 (shapeCast S4x2048x16x64 v5 shapeCasts_S4x2048x1024_S4x2048x16x64) shapeCasts_S4x2048x16x64_S4x16x128x2x8x64)

def keysR (v7 : FVec Ideal S4x2048x256 .f32) : FVec Ideal S4x16x256x2x64 .f32 :=
  (concatenate S4x16x256x2x64 2 [⟨S4x16x128x2x64, (pad S4x16x128x2x64 ![0, 1, 0, 0, 0] ![0, 0, 0, 0, 0] ![0, 0, 0, 0, 0] (extractStridedSlice S4x15x128x2x64 ![0, 0, 0, 0, 0] (shapeCast S4x16x128x2x64 (shapeCast S4x2048x2x64 (extractStridedSlice S4x2048x128 ![0, 0, 0] v7 slices_S4x2048x256_S4x2048x128_0_0_0) shapeCasts_S4x2048x128_S4x2048x2x64) shapeCasts_S4x2048x2x64_S4x16x128x2x64) slices_S4x16x128x2x64_S4x15x128x2x64_0_0_0_0_0) (sitofp .f32 (constantI S_ 32 0#32)) pads_S4x15x128x2x64_S4x16x128x2x64_000_100_000_000_000 h_S_)⟩, ⟨S4x16x128x2x64, (shapeCast S4x16x128x2x64 (shapeCast S4x2048x2x64 (extractStridedSlice S4x2048x128 ![0, 0, 0] v7 slices_S4x2048x256_S4x2048x128_0_0_0) shapeCasts_S4x2048x128_S4x2048x2x64) shapeCasts_S4x2048x2x64_S4x16x128x2x64)⟩] concatenates_S4x16x128x2x64_S4x16x128x2x64_S4x16x256x2x64_d2)

def valsR (v7 : FVec Ideal S4x2048x256 .f32) : FVec Ideal S4x16x256x2x64 .f32 :=
  (concatenate S4x16x256x2x64 2 [⟨S4x16x128x2x64, (pad S4x16x128x2x64 ![0, 1, 0, 0, 0] ![0, 0, 0, 0, 0] ![0, 0, 0, 0, 0] (extractStridedSlice S4x15x128x2x64 ![0, 0, 0, 0, 0] (shapeCast S4x16x128x2x64 (shapeCast S4x2048x2x64 (extractStridedSlice S4x2048x128 ![0, 0, 128] v7 slices_S4x2048x256_S4x2048x128_0_0_128) shapeCasts_S4x2048x128_S4x2048x2x64) shapeCasts_S4x2048x2x64_S4x16x128x2x64) slices_S4x16x128x2x64_S4x15x128x2x64_0_0_0_0_0) (sitofp .f32 (constantI S_ 32 0#32)) pads_S4x15x128x2x64_S4x16x128x2x64_000_100_000_000_000 h_S_)⟩, ⟨S4x16x128x2x64, (shapeCast S4x16x128x2x64 (shapeCast S4x2048x2x64 (extractStridedSlice S4x2048x128 ![0, 0, 128] v7 slices_S4x2048x256_S4x2048x128_0_0_128) shapeCasts_S4x2048x128_S4x2048x2x64) shapeCasts_S4x2048x2x64_S4x16x128x2x64)⟩] concatenates_S4x16x128x2x64_S4x16x128x2x64_S4x16x256x2x64_d2)

def dotsR (v62 : FVec Ideal S4x16x256x2x64 .f32) (v57 : FVec Ideal S4x16x128x2x8x64 .f32) : FVec Ideal S4x16x2x8x128x256 .f32 :=
  (mulf (transpose S4x16x2x8x128x256 [0, 1, 2, 5, 4, 3] (Host.dotGeneral dot_S4x16x256x2x64_S4x16x128x2x8x64_S4x16x2x256x128x8_4_5_2_24_013_013 none v62 v57) transposes_S4x16x2x256x128x8_S4x16x2x8x128x256_0_1_2_5_4_3) (broadcastInDim S4x16x2x8x128x256 ![] bcast_S_S4x16x2x8x128x256 (constant S_ .f32 0x3E000000#32)))

def bandR  : IVec S16x128x256 1 :=
  (andi (broadcastInDim S16x128x256 ![0, 1, 2] bcast_S1x128x256_S16x128x256_0_1_2 (broadcastInDim S1x128x256 ![1, 2] bcast_S128x256_S1x128x256_1_2 (andi (cmpi .sge (broadcastInDim S128x256 ![0, 1] bcast_S1x256_S128x256_0_1 (broadcastInDim S1x256 ![1] bcast_S256_S1x256_1 (iotaInDim S256 32 0))) (broadcastInDim S128x256 ![0, 1] bcast_S128x1_S128x256_0_1 (addi (broadcastInDim S128x1 ![0] bcast_S128_S128x1_0 (iotaInDim S128 32 0)) (broadcastInDim S128x1 ![] bcast_S_S128x1 (constantI S_ 32 1#32))))) (cmpi .sle (broadcastInDim S128x256 ![0, 1] bcast_S1x256_S128x256_0_1 (broadcastInDim S1x256 ![1] bcast_S256_S1x256_1 (iotaInDim S256 32 0))) (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))))))) (broadcastInDim S16x128x256 ![0, 1, 2] bcast_S16x1x256_S16x128x256_0_1_2 (ori (broadcastInDim S16x1x256 ![0, 1, 2] bcast_S16x1x1_S16x1x256_0_1_2 (cmpi .sgt (broadcastInDim S16x1x1 ![0] bcast_S16_S16x1x1_0 (iotaInDim S16 32 0)) (broadcastInDim S16x1x1 ![] bcast_S_S16x1x1 (constantI S_ 32 0#32)))) (broadcastInDim S16x1x256 ![0, 1, 2] bcast_S1x1x256_S16x1x256_0_1_2 (broadcastInDim S1x1x256 ![1, 2] bcast_S1x256_S1x1x256_1_2 (cmpi .sge (broadcastInDim S1x256 ![1] bcast_S256_S1x256_1 (iotaInDim S256 32 0)) (broadcastInDim S1x256 ![] bcast_S_S1x256 (constantI S_ 32 128#32))))))))

def scoreR (v98 : IVec S16x128x256 1) (v69 : FVec Ideal S4x16x2x8x128x256 .f32) : FVec Ideal S4x16x2x8x128x256 .f32 :=
  (select (broadcastInDim S4x16x2x8x128x256 ![0, 1, 2, 3, 4, 5] bcast_S1x16x1x1x128x256_S4x16x2x8x128x256_0_1_2_3_4_5 (broadcastInDim S1x16x1x1x128x256 ![1, 4, 5] bcast_S16x128x256_S1x16x1x1x128x256_1_4_5 v98)) v69 (broadcastInDim S4x16x2x8x128x256 ![] bcast_S_S4x16x2x8x128x256 (constant S_ .f32 0xFF800000#32)))

def sinkB (v56 : FVec Ideal S16 .f32) : FVec Ideal S1x1x2x8x1x1 .f32 :=
  (broadcastInDim S1x1x2x8x1x1 ![2, 3] bcast_S2x8_S1x1x2x8x1x1_2_3 (shapeCast S2x8 v56 shapeCasts_S16_S2x8))

def peakR (v100 : FVec Ideal S4x16x2x8x128x256 .f32) : FVec Ideal S4x16x2x8x128 .f32 :=
  (Host.reduce FloatOps.maximumf v100 (constant S_ .f32 0xFF800000#32) reducesTo_S4x16x2x8x128x256_S4x16x2x8x128_d5 h_S_)

def topR (v103 : FVec Ideal S4x16x2x8x128 .f32) (v102 : FVec Ideal S1x1x2x8x1x1 .f32) : FVec Ideal S4x16x2x8x128x1 .f32 :=
  (maximumf (broadcastInDim S4x16x2x8x128x1 ![0, 1, 2, 3, 4] bcast_S4x16x2x8x128_S4x16x2x8x128x1_0_1_2_3_4 v103) (broadcastInDim S4x16x2x8x128x1 ![0, 1, 2, 3, 4, 5] bcast_S1x1x2x8x1x1_S4x16x2x8x128x1_0_1_2_3_4_5 v102))

def expR (v100 : FVec Ideal S4x16x2x8x128x256 .f32) (v106 : FVec Ideal S4x16x2x8x128x1 .f32) : FVec Ideal S4x16x2x8x128x256 .f32 :=
  (Host.exp (subf v100 (broadcastInDim S4x16x2x8x128x256 ![0, 1, 2, 3, 4, 5] bcast_S4x16x2x8x128x1_S4x16x2x8x128x256_0_1_2_3_4_5 v106)))

def denR (v109 : FVec Ideal S4x16x2x8x128x256 .f32) (v102 : FVec Ideal S1x1x2x8x1x1 .f32) (v106 : FVec Ideal S4x16x2x8x128x1 .f32) : FVec Ideal S4x16x2x8x128x1 .f32 :=
  (addf (broadcastInDim S4x16x2x8x128x1 ![0, 1, 2, 3, 4] bcast_S4x16x2x8x128_S4x16x2x8x128x1_0_1_2_3_4 (Host.reduceAdd v109 (constant S_ .f32 0x00000000#32) reducesTo_S4x16x2x8x128x256_S4x16x2x8x128_d5 h_S_)) (Host.exp (subf (broadcastInDim S4x16x2x8x128x1 ![0, 1, 2, 3, 4, 5] bcast_S1x1x2x8x1x1_S4x16x2x8x128x1_0_1_2_3_4_5 v102) v106)))

def mixR (v50 : FVec Ideal S4x2048x1024 .f32) (v65 : FVec Ideal S4x16x256x2x64 .f32) (v109 : FVec Ideal S4x16x2x8x128x256 .f32) (v115 : FVec Ideal S4x16x2x8x128x1 .f32) : FVec Ideal S8192x2048 .bf16 :=
  (truncf .bf16 (shapeCast S8192x2048 (concatenate S4x2048x2048 2 [⟨S4x2048x1024, v50⟩, ⟨S4x2048x1024, (shapeCast S4x2048x1024 (transpose S4x16x128x2x8x64 [0, 1, 5, 2, 4, 3] (Host.dotGeneral dot_S4x16x256x2x64_S4x16x2x8x128x256_S4x16x2x64x8x128_2_5_4_34_013_012 none v65 (Host.divf v109 (broadcastInDim S4x16x2x8x128x256 ![0, 1, 2, 3, 4, 5] bcast_S4x16x2x8x128x1_S4x16x2x8x128x256_0_1_2_3_4_5 v115))) transposes_S4x16x2x64x8x128_S4x16x128x2x8x64_0_1_5_2_4_3) shapeCasts_S4x16x128x2x8x64_S4x2048x1024)⟩] concatenates_S4x2048x1024_S4x2048x1024_S4x2048x2048_d2) shapeCasts_S4x2048x2048_S8192x2048) bitsLt_bf16_f32)

def woR (a9 : FVec Ideal S1x2048x2048 .f32) : FVec Ideal S2048x2048 .bf16 :=
  (truncf .bf16 (shapeCast S2048x2048 a9 shapeCasts_S1x2048x2048_S2048x2048) bitsLt_bf16_f32)

def wqR (a10 : FVec Ideal S1x2048x2048 .f32) : FVec Ideal S2048x2048 .bf16 :=
  (truncf .bf16 (shapeCast S2048x2048 a10 shapeCasts_S1x2048x2048_S2048x2048) bitsLt_bf16_f32)

section
variable {F : FTy → Type} [FloatOps F]

abbrev line0 : List (HloOp τ sig (Elt F)) :=
  [
    unary main_arg0 main_v0 ((extf .f32 · bitsLt_bf16_f32) : (⟨S8192x1024, .bf16⟩ : BufTy).Contents (Elt F) → (⟨S8192x1024, .f32⟩ : BufTy).Contents (Elt F)),
    reshape main_v0 main_v1 (rfl : (.f32 : EltTy) = .f32) shapeCasts_S8192x1024_S4x2048x1024,
    unary main_arg1 main_v2 ((extf .f32 · bitsLt_bf16_f32) : (⟨S8192x1024, .bf16⟩ : BufTy).Contents (Elt F) → (⟨S8192x1024, .f32⟩ : BufTy).Contents (Elt F)),
    reshape main_v2 main_v3 (rfl : (.f32 : EltTy) = .f32) shapeCasts_S8192x1024_S4x2048x1024,
    unary main_arg2 main_v4 ((extf .f32 · bitsLt_bf16_f32) : (⟨S8192x1024, .bf16⟩ : BufTy).Contents (Elt F) → (⟨S8192x1024, .f32⟩ : BufTy).Contents (Elt F)),
    reshape main_v4 main_v5 (rfl : (.f32 : EltTy) = .f32) shapeCasts_S8192x1024_S4x2048x1024,
    unary main_arg3 main_v6 ((extf .f32 · bitsLt_bf16_f32) : (⟨S8192x256, .bf16⟩ : BufTy).Contents (Elt F) → (⟨S8192x256, .f32⟩ : BufTy).Contents (Elt F)),
    reshape main_v6 main_v7 (rfl : (.f32 : EltTy) = .f32) shapeCasts_S8192x256_S4x2048x256,
    reshape main_arg4 main_v8 (rfl : (.f32 : EltTy) = .f32) shapeCasts_S1x8x128_S8x128,
    reshape main_arg5 main_v9 (rfl : (.f32 : EltTy) = .f32) shapeCasts_S1x8x128_S8x128,
    reshape main_arg6 main_v10 (rfl : (.f32 : EltTy) = .f32) shapeCasts_S1x8x128x128_S8x128x128,
    reshape main_arg7 main_v11 (rfl : (.f32 : EltTy) = .f32) shapeCasts_S1x8x128_S8x128,
    reshape main_v1 main_v12 (rfl : (.f32 : EltTy) = .f32) shapeCasts_S4x2048x1024_S4x16x128x8x128,
    reshape main_v3 main_v13 (rfl : (.f32 : EltTy) = .f32) shapeCasts_S4x2048x1024_S4x16x128x8x128 ]

abbrev line1 : List (HloOp τ sig (Elt F)) :=
  [
    nullary main_cst (constant S_ .f32 0x00000000#32),
    binary main_v13 main_cst main_v14 ((fun x v => Host.reduceAdd x v reducesTo_S4x16x128x8x128_S4x16x128x8_d4 h_S_) : (⟨S4x16x128x8x128, .f32⟩ : BufTy).Contents (Elt F) → (⟨S_, .f32⟩ : BufTy).Contents (Elt F) → (⟨S4x16x128x8, .f32⟩ : BufTy).Contents (Elt F)),
    unary main_v14 main_v15 (broadcastInDim S4x16x128x8x1 ![0, 1, 2, 3] bcast_S4x16x128x8_S4x16x128x8x1_0_1_2_3 : (⟨S4x16x128x8, .f32⟩ : BufTy).Contents (Elt F) → (⟨S4x16x128x8x1, .f32⟩ : BufTy).Contents (Elt F)),
    nullary main_cst_0 (constant S_ .f32 0x43000000#32),
    unary main_cst_0 main_v16 (broadcastInDim S4x16x128x8x1 ![] bcast_S_S4x16x128x8x1 : (⟨S_, .f32⟩ : BufTy).Contents (Elt F) → (⟨S4x16x128x8x1, .f32⟩ : BufTy).Contents (Elt F)),
    binary main_v15 main_v16 main_v17 (Host.divf : (⟨S4x16x128x8x1, .f32⟩ : BufTy).Contents (Elt F) → (⟨S4x16x128x8x1, .f32⟩ : BufTy).Contents (Elt F) → (⟨S4x16x128x8x1, .f32⟩ : BufTy).Contents (Elt F)) ]

abbrev line2 : List (HloOp τ sig (Elt F)) :=
  [
    unary main_v17 main_v18 (broadcastInDim S4x16x128x8x128 ![0, 1, 2, 3, 4] bcast_S4x16x128x8x1_S4x16x128x8x128_0_1_2_3_4 : (⟨S4x16x128x8x1, .f32⟩ : BufTy).Contents (Elt F) → (⟨S4x16x128x8x128, .f32⟩ : BufTy).Contents (Elt F)),
    binary main_v13 main_v18 main_v19 (subf : (⟨S4x16x128x8x128, .f32⟩ : BufTy).Contents (Elt F) → (⟨S4x16x128x8x128, .f32⟩ : BufTy).Contents (Elt F) → (⟨S4x16x128x8x128, .f32⟩ : BufTy).Contents (Elt F)),
    binary main_v19 main_v19 main_v20 (mulf : (⟨S4x16x128x8x128, .f32⟩ : BufTy).Contents (Elt F) → (⟨S4x16x128x8x128, .f32⟩ : BufTy).Contents (Elt F) → (⟨S4x16x128x8x128, .f32⟩ : BufTy).Contents (Elt F)),
    nullary main_cst_1 (constant S_ .f32 0x00000000#32),
    binary main_v20 main_cst_1 main_v21 ((fun x v => Host.reduceAdd x v reducesTo_S4x16x128x8x128_S4x16x128x8_d4 h_S_) : (⟨S4x16x128x8x128, .f32⟩ : BufTy).Contents (Elt F) → (⟨S_, .f32⟩ : BufTy).Contents (Elt F) → (⟨S4x16x128x8, .f32⟩ : BufTy).Contents (Elt F)),
    unary main_v21 main_v22 (broadcastInDim S4x16x128x8x1 ![0, 1, 2, 3] bcast_S4x16x128x8_S4x16x128x8x1_0_1_2_3 : (⟨S4x16x128x8, .f32⟩ : BufTy).Contents (Elt F) → (⟨S4x16x128x8x1, .f32⟩ : BufTy).Contents (Elt F)),
    nullary main_cst_2 (constant S_ .f32 0x43000000#32),
    unary main_cst_2 main_v23 (broadcastInDim S4x16x128x8x1 ![] bcast_S_S4x16x128x8x1 : (⟨S_, .f32⟩ : BufTy).Contents (Elt F) → (⟨S4x16x128x8x1, .f32⟩ : BufTy).Contents (Elt F)),
    binary main_v22 main_v23 main_v24 (Host.divf : (⟨S4x16x128x8x1, .f32⟩ : BufTy).Contents (Elt F) → (⟨S4x16x128x8x1, .f32⟩ : BufTy).Contents (Elt F) → (⟨S4x16x128x8x1, .f32⟩ : BufTy).Contents (Elt F)) ]

abbrev line3 : List (HloOp τ sig (Elt F)) :=
  [
    unary main_v17 main_v25 (broadcastInDim S4x16x128x8x128 ![0, 1, 2, 3, 4] bcast_S4x16x128x8x1_S4x16x128x8x128_0_1_2_3_4 : (⟨S4x16x128x8x1, .f32⟩ : BufTy).Contents (Elt F) → (⟨S4x16x128x8x128, .f32⟩ : BufTy).Contents (Elt F)),
    binary main_v13 main_v25 main_v26 (subf : (⟨S4x16x128x8x128, .f32⟩ : BufTy).Contents (Elt F) → (⟨S4x16x128x8x128, .f32⟩ : BufTy).Contents (Elt F) → (⟨S4x16x128x8x128, .f32⟩ : BufTy).Contents (Elt F)),
    nullary main_cst_3 (constant S_ .f32 0x358637BD#32),
    unary main_cst_3 main_v27 (broadcastInDim S4x16x128x8x1 ![] bcast_S_S4x16x128x8x1 : (⟨S_, .f32⟩ : BufTy).Contents (Elt F) → (⟨S4x16x128x8x1, .f32⟩ : BufTy).Contents (Elt F)),
    binary main_v24 main_v27 main_v28 (addf : (⟨S4x16x128x8x1, .f32⟩ : BufTy).Contents (Elt F) → (⟨S4x16x128x8x1, .f32⟩ : BufTy).Contents (Elt F) → (⟨S4x16x128x8x1, .f32⟩ : BufTy).Contents (Elt F)),
    unary main_v28 main_v29 (Host.rsqrt : (⟨S4x16x128x8x1, .f32⟩ : BufTy).Contents (Elt F) → (⟨S4x16x128x8x1, .f32⟩ : BufTy).Contents (Elt F)),
    unary main_v29 main_v30 (broadcastInDim S4x16x128x8x128 ![0, 1, 2, 3, 4] bcast_S4x16x128x8x1_S4x16x128x8x128_0_1_2_3_4 : (⟨S4x16x128x8x1, .f32⟩ : BufTy).Contents (Elt F) → (⟨S4x16x128x8x128, .f32⟩ : BufTy).Contents (Elt F)),
    binary main_v26 main_v30 main_v31 (mulf : (⟨S4x16x128x8x128, .f32⟩ : BufTy).Contents (Elt F) → (⟨S4x16x128x8x128, .f32⟩ : BufTy).Contents (Elt F) → (⟨S4x16x128x8x128, .f32⟩ : BufTy).Contents (Elt F)),
    unary main_v8 main_v32 (broadcastInDim S1x1x1x8x128 ![3, 4] bcast_S8x128_S1x1x1x8x128_3_4 : (⟨S8x128, .f32⟩ : BufTy).Contents (Elt F) → (⟨S1x1x1x8x128, .f32⟩ : BufTy).Contents (Elt F)),
    unary main_v32 main_v33 (broadcastInDim S4x16x128x8x128 ![0, 1, 2, 3, 4] bcast_S1x1x1x8x128_S4x16x128x8x128_0_1_2_3_4 : (⟨S1x1x1x8x128, .f32⟩ : BufTy).Contents (Elt F) → (⟨S4x16x128x8x128, .f32⟩ : BufTy).Contents (Elt F)),
    binary main_v31 main_v33 main_v34 (mulf : (⟨S4x16x128x8x128, .f32⟩ : BufTy).Contents (Elt F) → (⟨S4x16x128x8x128, .f32⟩ : BufTy).Contents (Elt F) → (⟨S4x16x128x8x128, .f32⟩ : BufTy).Contents (Elt F)),
    unary main_v9 main_v35 (broadcastInDim S1x1x1x8x128 ![3, 4] bcast_S8x128_S1x1x1x8x128_3_4 : (⟨S8x128, .f32⟩ : BufTy).Contents (Elt F) → (⟨S1x1x1x8x128, .f32⟩ : BufTy).Contents (Elt F)),
    unary main_v35 main_v36 (broadcastInDim S4x16x128x8x128 ![0, 1, 2, 3, 4] bcast_S1x1x1x8x128_S4x16x128x8x128_0_1_2_3_4 : (⟨S1x1x1x8x128, .f32⟩ : BufTy).Contents (Elt F) → (⟨S4x16x128x8x128, .f32⟩ : BufTy).Contents (Elt F)),
    binary main_v34 main_v36 main_v37 (addf : (⟨S4x16x128x8x128, .f32⟩ : BufTy).Contents (Elt F) → (⟨S4x16x128x8x128, .f32⟩ : BufTy).Contents (Elt F) → (⟨S4x16x128x8x128, .f32⟩ : BufTy).Contents (Elt F)) ]

abbrev line4 : List (HloOp τ sig (Elt F)) :=
  [
    nullary main_c (constantI S_ 1 1#1),
    unary main_c main_v38 (broadcastInDim S128x128 ![] bcast_S_S128x128 : (⟨S_, .i1⟩ : BufTy).Contents (Elt F) → (⟨S128x128, .i1⟩ : BufTy).Contents (Elt F)),
    TRef.nullary (TRef.of (T := ⟨S128x128, .i32⟩) main_call0_v0) (iotaInDim S128x128 32 0),
    TRef.nullary (TRef.of (T := ⟨S_, .i32⟩) main_call0_c) (constantI S_ 32 0#32),
    TRef.unary (TRef.of (T := ⟨S_, .i32⟩) main_call0_c) (TRef.of (T := ⟨S128x128, .i32⟩) main_call0_v1) (broadcastInDim S128x128 ![] bcast_S_S128x128),
    TRef.binary (TRef.of (T := ⟨S128x128, .i32⟩) main_call0_v0) (TRef.of (T := ⟨S128x128, .i32⟩) main_call0_v1) (TRef.of (T := ⟨S128x128, .i32⟩) main_call0_v2) addi,
    TRef.nullary (TRef.of (T := ⟨S128x128, .i32⟩) main_call0_v3) (iotaInDim S128x128 32 1),
    TRef.binary (TRef.of (T := ⟨S128x128, .i32⟩) main_call0_v2) (TRef.of (T := ⟨S128x128, .i32⟩) main_call0_v3) (TRef.of (T := ⟨S128x128, .i1⟩) main_call0_v4) (cmpi .sge),
    TRef.nullary (TRef.of (T := ⟨S_, .i1⟩) main_call0_c_0) (constantI S_ 1 0#1),
    TRef.unary (TRef.of (T := ⟨S_, .i1⟩) main_call0_c_0) (TRef.of (T := ⟨S128x128, .i1⟩) main_call0_v5) (broadcastInDim S128x128 ![] bcast_S_S128x128),
    TRef.ternary (TRef.of (T := ⟨S128x128, .i1⟩) main_call0_v4) (TRef.of (T := ⟨S128x128, .i1⟩) main_v38) (TRef.of (T := ⟨S128x128, .i1⟩) main_call0_v5) (TRef.of (T := ⟨S128x128, .i1⟩) main_v39) select,
    unary main_v39 main_v40 (broadcastInDim S1x128x128 ![1, 2] bcast_S128x128_S1x128x128_1_2 : (⟨S128x128, .i1⟩ : BufTy).Contents (Elt F) → (⟨S1x128x128, .i1⟩ : BufTy).Contents (Elt F)),
    nullary main_cst_4 (constant S_ .f32 0x00000000#32),
    unary main_cst_4 main_v41 (broadcastInDim S8x128x128 ![] bcast_S_S8x128x128 : (⟨S_, .f32⟩ : BufTy).Contents (Elt F) → (⟨S8x128x128, .f32⟩ : BufTy).Contents (Elt F)),
    TRef.unary (TRef.of (T := ⟨S1x128x128, .i1⟩) main_v40) (TRef.of (T := ⟨S8x128x128, .i1⟩) main_call1_v0) (broadcastInDim S8x128x128 ![0, 1, 2] bcast_S1x128x128_S8x128x128_0_1_2),
    TRef.ternary (TRef.of (T := ⟨S8x128x128, .i1⟩) main_call1_v0) (TRef.of (T := ⟨S8x128x128, .f32⟩) main_v10) (TRef.of (T := ⟨S8x128x128, .f32⟩) main_v41) (TRef.of (T := ⟨S8x128x128, .f32⟩) main_v42) select ]

abbrev line5 : List (HloOp τ sig (Elt F)) :=
  [
    binary main_v37 main_v42 main_v43 ((fun l r => Host.dotGeneral dot_S4x16x128x8x128_S8x128x128_S8x4x16x128x128_2_2_014_1_3_0 none l r) : (⟨S4x16x128x8x128, .f32⟩ : BufTy).Contents (Elt F) → (⟨S8x128x128, .f32⟩ : BufTy).Contents (Elt F) → (⟨S8x4x16x128x128, .f32⟩ : BufTy).Contents (Elt F)),
    unary main_v43 main_v44 ((transpose S4x16x128x8x128 [1, 2, 4, 0, 3] · transposes_S8x4x16x128x128_S4x16x128x8x128_1_2_4_0_3) : (⟨S8x4x16x128x128, .f32⟩ : BufTy).Contents (Elt F) → (⟨S4x16x128x8x128, .f32⟩ : BufTy).Contents (Elt F)),
    unary main_v11 main_v45 ((transpose S128x8 [1, 0] · transposes_S8x128_S128x8_1_0) : (⟨S8x128, .f32⟩ : BufTy).Contents (Elt F) → (⟨S128x8, .f32⟩ : BufTy).Contents (Elt F)),
    unary main_v45 main_v46 (broadcastInDim S1x1x128x8x1 ![2, 3] bcast_S128x8_S1x1x128x8x1_2_3 : (⟨S128x8, .f32⟩ : BufTy).Contents (Elt F) → (⟨S1x1x128x8x1, .f32⟩ : BufTy).Contents (Elt F)),
    unary main_v46 main_v47 (broadcastInDim S4x16x128x8x128 ![0, 1, 2, 3, 4] bcast_S1x1x128x8x1_S4x16x128x8x128_0_1_2_3_4 : (⟨S1x1x128x8x1, .f32⟩ : BufTy).Contents (Elt F) → (⟨S4x16x128x8x128, .f32⟩ : BufTy).Contents (Elt F)),
    binary main_v44 main_v47 main_v48 (addf : (⟨S4x16x128x8x128, .f32⟩ : BufTy).Contents (Elt F) → (⟨S4x16x128x8x128, .f32⟩ : BufTy).Contents (Elt F) → (⟨S4x16x128x8x128, .f32⟩ : BufTy).Contents (Elt F)),
    binary main_v12 main_v48 main_v49 (mulf : (⟨S4x16x128x8x128, .f32⟩ : BufTy).Contents (Elt F) → (⟨S4x16x128x8x128, .f32⟩ : BufTy).Contents (Elt F) → (⟨S4x16x128x8x128, .f32⟩ : BufTy).Contents (Elt F)),
    reshape main_v49 main_v50 (rfl : (.f32 : EltTy) = .f32) shapeCasts_S4x16x128x8x128_S4x2048x1024 ]

abbrev line6 : List (HloOp τ sig (Elt F)) :=
  [
    reshape main_v5 main_v51 (rfl : (.f32 : EltTy) = .f32) shapeCasts_S4x2048x1024_S4x2048x16x64,
    unary main_v7 main_v52 ((extractStridedSlice S4x2048x128 ![0, 0, 0] · slices_S4x2048x256_S4x2048x128_0_0_0) : (⟨S4x2048x256, .f32⟩ : BufTy).Contents (Elt F) → (⟨S4x2048x128, .f32⟩ : BufTy).Contents (Elt F)),
    reshape main_v52 main_v53 (rfl : (.f32 : EltTy) = .f32) shapeCasts_S4x2048x128_S4x2048x2x64,
    unary main_v7 main_v54 ((extractStridedSlice S4x2048x128 ![0, 0, 128] · slices_S4x2048x256_S4x2048x128_0_0_128) : (⟨S4x2048x256, .f32⟩ : BufTy).Contents (Elt F) → (⟨S4x2048x128, .f32⟩ : BufTy).Contents (Elt F)),
    reshape main_v54 main_v55 (rfl : (.f32 : EltTy) = .f32) shapeCasts_S4x2048x128_S4x2048x2x64,
    reshape main_arg8 main_v56 (rfl : (.f32 : EltTy) = .f32) shapeCasts_S1x16_S16,
    reshape main_v51 main_v57 (rfl : (.f32 : EltTy) = .f32) shapeCasts_S4x2048x16x64_S4x16x128x2x8x64,
    reshape main_v53 main_v58 (rfl : (.f32 : EltTy) = .f32) shapeCasts_S4x2048x2x64_S4x16x128x2x64,
    reshape main_v55 main_v59 (rfl : (.f32 : EltTy) = .f32) shapeCasts_S4x2048x2x64_S4x16x128x2x64,
    unary main_v58 main_v60 ((extractStridedSlice S4x15x128x2x64 ![0, 0, 0, 0, 0] · slices_S4x16x128x2x64_S4x15x128x2x64_0_0_0_0_0) : (⟨S4x16x128x2x64, .f32⟩ : BufTy).Contents (Elt F) → (⟨S4x15x128x2x64, .f32⟩ : BufTy).Contents (Elt F)),
    nullary main_c_5 (constantI S_ 32 0#32),
    TRef.unary (TRef.of (T := ⟨S_, .i32⟩) main_c_5) (TRef.of (T := ⟨S_, .f32⟩) main_call2_v0) (sitofp .f32),
    TRef.binary (TRef.of (T := ⟨S4x15x128x2x64, .f32⟩) main_v60) (TRef.of (T := ⟨S_, .f32⟩) main_call2_v0) (TRef.of (T := ⟨S4x16x128x2x64, .f32⟩) main_v61) (fun x v => pad S4x16x128x2x64 ![0, 1, 0, 0, 0] ![0, 0, 0, 0, 0] ![0, 0, 0, 0, 0] x v pads_S4x15x128x2x64_S4x16x128x2x64_000_100_000_000_000 h_S_),
    binary main_v61 main_v58 main_v62 ((fun a b => concatenate S4x16x256x2x64 2 [⟨S4x16x128x2x64, a⟩, ⟨S4x16x128x2x64, b⟩] concatenates_S4x16x128x2x64_S4x16x128x2x64_S4x16x256x2x64_d2) : (⟨S4x16x128x2x64, .f32⟩ : BufTy).Contents (Elt F) → (⟨S4x16x128x2x64, .f32⟩ : BufTy).Contents (Elt F) → (⟨S4x16x256x2x64, .f32⟩ : BufTy).Contents (Elt F)),
    unary main_v59 main_v63 ((extractStridedSlice S4x15x128x2x64 ![0, 0, 0, 0, 0] · slices_S4x16x128x2x64_S4x15x128x2x64_0_0_0_0_0) : (⟨S4x16x128x2x64, .f32⟩ : BufTy).Contents (Elt F) → (⟨S4x15x128x2x64, .f32⟩ : BufTy).Contents (Elt F)),
    nullary main_c_6 (constantI S_ 32 0#32),
    TRef.unary (TRef.of (T := ⟨S_, .i32⟩) main_c_6) (TRef.of (T := ⟨S_, .f32⟩) main_call3_v0) (sitofp .f32),
    TRef.binary (TRef.of (T := ⟨S4x15x128x2x64, .f32⟩) main_v63) (TRef.of (T := ⟨S_, .f32⟩) main_call3_v0) (TRef.of (T := ⟨S4x16x128x2x64, .f32⟩) main_v64) (fun x v => pad S4x16x128x2x64 ![0, 1, 0, 0, 0] ![0, 0, 0, 0, 0] ![0, 0, 0, 0, 0] x v pads_S4x15x128x2x64_S4x16x128x2x64_000_100_000_000_000 h_S_),
    binary main_v64 main_v59 main_v65 ((fun a b => concatenate S4x16x256x2x64 2 [⟨S4x16x128x2x64, a⟩, ⟨S4x16x128x2x64, b⟩] concatenates_S4x16x128x2x64_S4x16x128x2x64_S4x16x256x2x64_d2) : (⟨S4x16x128x2x64, .f32⟩ : BufTy).Contents (Elt F) → (⟨S4x16x128x2x64, .f32⟩ : BufTy).Contents (Elt F) → (⟨S4x16x256x2x64, .f32⟩ : BufTy).Contents (Elt F)) ]

abbrev line7 : List (HloOp τ sig (Elt F)) :=
  [
    binary main_v62 main_v57 main_v66 ((fun l r => Host.dotGeneral dot_S4x16x256x2x64_S4x16x128x2x8x64_S4x16x2x256x128x8_4_5_2_24_013_013 none l r) : (⟨S4x16x256x2x64, .f32⟩ : BufTy).Contents (Elt F) → (⟨S4x16x128x2x8x64, .f32⟩ : BufTy).Contents (Elt F) → (⟨S4x16x2x256x128x8, .f32⟩ : BufTy).Contents (Elt F)),
    unary main_v66 main_v67 ((transpose S4x16x2x8x128x256 [0, 1, 2, 5, 4, 3] · transposes_S4x16x2x256x128x8_S4x16x2x8x128x256_0_1_2_5_4_3) : (⟨S4x16x2x256x128x8, .f32⟩ : BufTy).Contents (Elt F) → (⟨S4x16x2x8x128x256, .f32⟩ : BufTy).Contents (Elt F)),
    nullary main_cst_7 (constant S_ .f32 0x3E000000#32),
    unary main_cst_7 main_v68 (broadcastInDim S4x16x2x8x128x256 ![] bcast_S_S4x16x2x8x128x256 : (⟨S_, .f32⟩ : BufTy).Contents (Elt F) → (⟨S4x16x2x8x128x256, .f32⟩ : BufTy).Contents (Elt F)),
    binary main_v67 main_v68 main_v69 (mulf : (⟨S4x16x2x8x128x256, .f32⟩ : BufTy).Contents (Elt F) → (⟨S4x16x2x8x128x256, .f32⟩ : BufTy).Contents (Elt F) → (⟨S4x16x2x8x128x256, .f32⟩ : BufTy).Contents (Elt F)) ]

abbrev line8 : List (HloOp τ sig (Elt F)) :=
  [
    nullary main_v70 (iotaInDim S128 32 0),
    unary main_v70 main_v71 (broadcastInDim S128x1 ![0] bcast_S128_S128x1_0 : (⟨S128, .i32⟩ : BufTy).Contents (Elt F) → (⟨S128x1, .i32⟩ : BufTy).Contents (Elt F)),
    nullary main_v72 (iotaInDim S256 32 0),
    unary main_v72 main_v73 (broadcastInDim S1x256 ![1] bcast_S256_S1x256_1 : (⟨S256, .i32⟩ : BufTy).Contents (Elt F) → (⟨S1x256, .i32⟩ : BufTy).Contents (Elt F)),
    nullary main_c_8 (constantI S_ 32 1#32),
    unary main_c_8 main_v74 (broadcastInDim S128x1 ![] bcast_S_S128x1 : (⟨S_, .i32⟩ : BufTy).Contents (Elt F) → (⟨S128x1, .i32⟩ : BufTy).Contents (Elt F)),
    binary main_v71 main_v74 main_v75 (addi : (⟨S128x1, .i32⟩ : BufTy).Contents (Elt F) → (⟨S128x1, .i32⟩ : BufTy).Contents (Elt F) → (⟨S128x1, .i32⟩ : BufTy).Contents (Elt F)),
    unary main_v73 main_v76 (broadcastInDim S128x256 ![0, 1] bcast_S1x256_S128x256_0_1 : (⟨S1x256, .i32⟩ : BufTy).Contents (Elt F) → (⟨S128x256, .i32⟩ : BufTy).Contents (Elt F)),
    unary main_v75 main_v77 (broadcastInDim S128x256 ![0, 1] bcast_S128x1_S128x256_0_1 : (⟨S128x1, .i32⟩ : BufTy).Contents (Elt F) → (⟨S128x256, .i32⟩ : BufTy).Contents (Elt F)),
    binary main_v76 main_v77 main_v78 (cmpi .sge : (⟨S128x256, .i32⟩ : BufTy).Contents (Elt F) → (⟨S128x256, .i32⟩ : BufTy).Contents (Elt F) → (⟨S128x256, .i1⟩ : BufTy).Contents (Elt F)),
    nullary main_c_9 (constantI S_ 32 128#32),
    unary main_c_9 main_v79 (broadcastInDim S128x1 ![] bcast_S_S128x1 : (⟨S_, .i32⟩ : BufTy).Contents (Elt F) → (⟨S128x1, .i32⟩ : BufTy).Contents (Elt F)),
    binary main_v71 main_v79 main_v80 (addi : (⟨S128x1, .i32⟩ : BufTy).Contents (Elt F) → (⟨S128x1, .i32⟩ : BufTy).Contents (Elt F) → (⟨S128x1, .i32⟩ : BufTy).Contents (Elt F)),
    unary main_v73 main_v81 (broadcastInDim S128x256 ![0, 1] bcast_S1x256_S128x256_0_1 : (⟨S1x256, .i32⟩ : BufTy).Contents (Elt F) → (⟨S128x256, .i32⟩ : BufTy).Contents (Elt F)),
    unary main_v80 main_v82 (broadcastInDim S128x256 ![0, 1] bcast_S128x1_S128x256_0_1 : (⟨S128x1, .i32⟩ : BufTy).Contents (Elt F) → (⟨S128x256, .i32⟩ : BufTy).Contents (Elt F)),
    binary main_v81 main_v82 main_v83 (cmpi .sle : (⟨S128x256, .i32⟩ : BufTy).Contents (Elt F) → (⟨S128x256, .i32⟩ : BufTy).Contents (Elt F) → (⟨S128x256, .i1⟩ : BufTy).Contents (Elt F)),
    binary main_v78 main_v83 main_v84 (andi : (⟨S128x256, .i1⟩ : BufTy).Contents (Elt F) → (⟨S128x256, .i1⟩ : BufTy).Contents (Elt F) → (⟨S128x256, .i1⟩ : BufTy).Contents (Elt F)),
    nullary main_v85 (iotaInDim S16 32 0),
    unary main_v85 main_v86 (broadcastInDim S16x1x1 ![0] bcast_S16_S16x1x1_0 : (⟨S16, .i32⟩ : BufTy).Contents (Elt F) → (⟨S16x1x1, .i32⟩ : BufTy).Contents (Elt F)),
    unary main_v84 main_v87 (broadcastInDim S1x128x256 ![1, 2] bcast_S128x256_S1x128x256_1_2 : (⟨S128x256, .i1⟩ : BufTy).Contents (Elt F) → (⟨S1x128x256, .i1⟩ : BufTy).Contents (Elt F)),
    nullary main_c_10 (constantI S_ 32 0#32),
    unary main_c_10 main_v88 (broadcastInDim S16x1x1 ![] bcast_S_S16x1x1 : (⟨S_, .i32⟩ : BufTy).Contents (Elt F) → (⟨S16x1x1, .i32⟩ : BufTy).Contents (Elt F)),
    binary main_v86 main_v88 main_v89 (cmpi .sgt : (⟨S16x1x1, .i32⟩ : BufTy).Contents (Elt F) → (⟨S16x1x1, .i32⟩ : BufTy).Contents (Elt F) → (⟨S16x1x1, .i1⟩ : BufTy).Contents (Elt F)),
    nullary main_c_11 (constantI S_ 32 128#32),
    unary main_c_11 main_v90 (broadcastInDim S1x256 ![] bcast_S_S1x256 : (⟨S_, .i32⟩ : BufTy).Contents (Elt F) → (⟨S1x256, .i32⟩ : BufTy).Contents (Elt F)),
    binary main_v73 main_v90 main_v91 (cmpi .sge : (⟨S1x256, .i32⟩ : BufTy).Contents (Elt F) → (⟨S1x256, .i32⟩ : BufTy).Contents (Elt F) → (⟨S1x256, .i1⟩ : BufTy).Contents (Elt F)),
    unary main_v91 main_v92 (broadcastInDim S1x1x256 ![1, 2] bcast_S1x256_S1x1x256_1_2 : (⟨S1x256, .i1⟩ : BufTy).Contents (Elt F) → (⟨S1x1x256, .i1⟩ : BufTy).Contents (Elt F)),
    unary main_v89 main_v93 (broadcastInDim S16x1x256 ![0, 1, 2] bcast_S16x1x1_S16x1x256_0_1_2 : (⟨S16x1x1, .i1⟩ : BufTy).Contents (Elt F) → (⟨S16x1x256, .i1⟩ : BufTy).Contents (Elt F)),
    unary main_v92 main_v94 (broadcastInDim S16x1x256 ![0, 1, 2] bcast_S1x1x256_S16x1x256_0_1_2 : (⟨S1x1x256, .i1⟩ : BufTy).Contents (Elt F) → (⟨S16x1x256, .i1⟩ : BufTy).Contents (Elt F)),
    binary main_v93 main_v94 main_v95 (ori : (⟨S16x1x256, .i1⟩ : BufTy).Contents (Elt F) → (⟨S16x1x256, .i1⟩ : BufTy).Contents (Elt F) → (⟨S16x1x256, .i1⟩ : BufTy).Contents (Elt F)),
    unary main_v87 main_v96 (broadcastInDim S16x128x256 ![0, 1, 2] bcast_S1x128x256_S16x128x256_0_1_2 : (⟨S1x128x256, .i1⟩ : BufTy).Contents (Elt F) → (⟨S16x128x256, .i1⟩ : BufTy).Contents (Elt F)),
    unary main_v95 main_v97 (broadcastInDim S16x128x256 ![0, 1, 2] bcast_S16x1x256_S16x128x256_0_1_2 : (⟨S16x1x256, .i1⟩ : BufTy).Contents (Elt F) → (⟨S16x128x256, .i1⟩ : BufTy).Contents (Elt F)),
    binary main_v96 main_v97 main_v98 (andi : (⟨S16x128x256, .i1⟩ : BufTy).Contents (Elt F) → (⟨S16x128x256, .i1⟩ : BufTy).Contents (Elt F) → (⟨S16x128x256, .i1⟩ : BufTy).Contents (Elt F)) ]

abbrev line9 : List (HloOp τ sig (Elt F)) :=
  [
    unary main_v98 main_v99 (broadcastInDim S1x16x1x1x128x256 ![1, 4, 5] bcast_S16x128x256_S1x16x1x1x128x256_1_4_5 : (⟨S16x128x256, .i1⟩ : BufTy).Contents (Elt F) → (⟨S1x16x1x1x128x256, .i1⟩ : BufTy).Contents (Elt F)),
    nullary main_cst_12 (constant S_ .f32 0xFF800000#32),
    TRef.unary (TRef.of (T := ⟨S_, .f32⟩) main_cst_12) (TRef.of (T := ⟨S_, .f32⟩) main_call4_v0) id,
    TRef.unary (TRef.of (T := ⟨S1x16x1x1x128x256, .i1⟩) main_v99) (TRef.of (T := ⟨S4x16x2x8x128x256, .i1⟩) main_call4_v1) (broadcastInDim S4x16x2x8x128x256 ![0, 1, 2, 3, 4, 5] bcast_S1x16x1x1x128x256_S4x16x2x8x128x256_0_1_2_3_4_5),
    TRef.unary (TRef.of (T := ⟨S_, .f32⟩) main_call4_v0) (TRef.of (T := ⟨S4x16x2x8x128x256, .f32⟩) main_call4_v2) (broadcastInDim S4x16x2x8x128x256 ![] bcast_S_S4x16x2x8x128x256),
    TRef.ternary (TRef.of (T := ⟨S4x16x2x8x128x256, .i1⟩) main_call4_v1) (TRef.of (T := ⟨S4x16x2x8x128x256, .f32⟩) main_v69) (TRef.of (T := ⟨S4x16x2x8x128x256, .f32⟩) main_call4_v2) (TRef.of (T := ⟨S4x16x2x8x128x256, .f32⟩) main_v100) select,
    reshape main_v56 main_v101 (rfl : (.f32 : EltTy) = .f32) shapeCasts_S16_S2x8,
    unary main_v101 main_v102 (broadcastInDim S1x1x2x8x1x1 ![2, 3] bcast_S2x8_S1x1x2x8x1x1_2_3 : (⟨S2x8, .f32⟩ : BufTy).Contents (Elt F) → (⟨S1x1x2x8x1x1, .f32⟩ : BufTy).Contents (Elt F)) ]

abbrev line10 : List (HloOp τ sig (Elt F)) :=
  [
    nullary main_cst_13 (constant S_ .f32 0xFF800000#32),
    binary main_v100 main_cst_13 main_v103 ((fun x v => Host.reduce FloatOps.maximumf x v reducesTo_S4x16x2x8x128x256_S4x16x2x8x128_d5 h_S_) : (⟨S4x16x2x8x128x256, .f32⟩ : BufTy).Contents (Elt F) → (⟨S_, .f32⟩ : BufTy).Contents (Elt F) → (⟨S4x16x2x8x128, .f32⟩ : BufTy).Contents (Elt F)) ]

abbrev line11 : List (HloOp τ sig (Elt F)) :=
  [
    unary main_v103 main_v104 (broadcastInDim S4x16x2x8x128x1 ![0, 1, 2, 3, 4] bcast_S4x16x2x8x128_S4x16x2x8x128x1_0_1_2_3_4 : (⟨S4x16x2x8x128, .f32⟩ : BufTy).Contents (Elt F) → (⟨S4x16x2x8x128x1, .f32⟩ : BufTy).Contents (Elt F)),
    unary main_v102 main_v105 (broadcastInDim S4x16x2x8x128x1 ![0, 1, 2, 3, 4, 5] bcast_S1x1x2x8x1x1_S4x16x2x8x128x1_0_1_2_3_4_5 : (⟨S1x1x2x8x1x1, .f32⟩ : BufTy).Contents (Elt F) → (⟨S4x16x2x8x128x1, .f32⟩ : BufTy).Contents (Elt F)),
    binary main_v104 main_v105 main_v106 (maximumf : (⟨S4x16x2x8x128x1, .f32⟩ : BufTy).Contents (Elt F) → (⟨S4x16x2x8x128x1, .f32⟩ : BufTy).Contents (Elt F) → (⟨S4x16x2x8x128x1, .f32⟩ : BufTy).Contents (Elt F)) ]

abbrev line12 : List (HloOp τ sig (Elt F)) :=
  [
    unary main_v106 main_v107 (broadcastInDim S4x16x2x8x128x256 ![0, 1, 2, 3, 4, 5] bcast_S4x16x2x8x128x1_S4x16x2x8x128x256_0_1_2_3_4_5 : (⟨S4x16x2x8x128x1, .f32⟩ : BufTy).Contents (Elt F) → (⟨S4x16x2x8x128x256, .f32⟩ : BufTy).Contents (Elt F)),
    binary main_v100 main_v107 main_v108 (subf : (⟨S4x16x2x8x128x256, .f32⟩ : BufTy).Contents (Elt F) → (⟨S4x16x2x8x128x256, .f32⟩ : BufTy).Contents (Elt F) → (⟨S4x16x2x8x128x256, .f32⟩ : BufTy).Contents (Elt F)),
    unary main_v108 main_v109 (Host.exp : (⟨S4x16x2x8x128x256, .f32⟩ : BufTy).Contents (Elt F) → (⟨S4x16x2x8x128x256, .f32⟩ : BufTy).Contents (Elt F)) ]

abbrev line13 : List (HloOp τ sig (Elt F)) :=
  [
    nullary main_cst_14 (constant S_ .f32 0x00000000#32),
    binary main_v109 main_cst_14 main_v110 ((fun x v => Host.reduceAdd x v reducesTo_S4x16x2x8x128x256_S4x16x2x8x128_d5 h_S_) : (⟨S4x16x2x8x128x256, .f32⟩ : BufTy).Contents (Elt F) → (⟨S_, .f32⟩ : BufTy).Contents (Elt F) → (⟨S4x16x2x8x128, .f32⟩ : BufTy).Contents (Elt F)),
    unary main_v110 main_v111 (broadcastInDim S4x16x2x8x128x1 ![0, 1, 2, 3, 4] bcast_S4x16x2x8x128_S4x16x2x8x128x1_0_1_2_3_4 : (⟨S4x16x2x8x128, .f32⟩ : BufTy).Contents (Elt F) → (⟨S4x16x2x8x128x1, .f32⟩ : BufTy).Contents (Elt F)),
    unary main_v102 main_v112 (broadcastInDim S4x16x2x8x128x1 ![0, 1, 2, 3, 4, 5] bcast_S1x1x2x8x1x1_S4x16x2x8x128x1_0_1_2_3_4_5 : (⟨S1x1x2x8x1x1, .f32⟩ : BufTy).Contents (Elt F) → (⟨S4x16x2x8x128x1, .f32⟩ : BufTy).Contents (Elt F)),
    binary main_v112 main_v106 main_v113 (subf : (⟨S4x16x2x8x128x1, .f32⟩ : BufTy).Contents (Elt F) → (⟨S4x16x2x8x128x1, .f32⟩ : BufTy).Contents (Elt F) → (⟨S4x16x2x8x128x1, .f32⟩ : BufTy).Contents (Elt F)),
    unary main_v113 main_v114 (Host.exp : (⟨S4x16x2x8x128x1, .f32⟩ : BufTy).Contents (Elt F) → (⟨S4x16x2x8x128x1, .f32⟩ : BufTy).Contents (Elt F)),
    binary main_v111 main_v114 main_v115 (addf : (⟨S4x16x2x8x128x1, .f32⟩ : BufTy).Contents (Elt F) → (⟨S4x16x2x8x128x1, .f32⟩ : BufTy).Contents (Elt F) → (⟨S4x16x2x8x128x1, .f32⟩ : BufTy).Contents (Elt F)) ]

abbrev line14 : List (HloOp τ sig (Elt F)) :=
  [
    unary main_v115 main_v116 (broadcastInDim S4x16x2x8x128x256 ![0, 1, 2, 3, 4, 5] bcast_S4x16x2x8x128x1_S4x16x2x8x128x256_0_1_2_3_4_5 : (⟨S4x16x2x8x128x1, .f32⟩ : BufTy).Contents (Elt F) → (⟨S4x16x2x8x128x256, .f32⟩ : BufTy).Contents (Elt F)),
    binary main_v109 main_v116 main_v117 (Host.divf : (⟨S4x16x2x8x128x256, .f32⟩ : BufTy).Contents (Elt F) → (⟨S4x16x2x8x128x256, .f32⟩ : BufTy).Contents (Elt F) → (⟨S4x16x2x8x128x256, .f32⟩ : BufTy).Contents (Elt F)),
    binary main_v65 main_v117 main_v118 ((fun l r => Host.dotGeneral dot_S4x16x256x2x64_S4x16x2x8x128x256_S4x16x2x64x8x128_2_5_4_34_013_012 none l r) : (⟨S4x16x256x2x64, .f32⟩ : BufTy).Contents (Elt F) → (⟨S4x16x2x8x128x256, .f32⟩ : BufTy).Contents (Elt F) → (⟨S4x16x2x64x8x128, .f32⟩ : BufTy).Contents (Elt F)),
    unary main_v118 main_v119 ((transpose S4x16x128x2x8x64 [0, 1, 5, 2, 4, 3] · transposes_S4x16x2x64x8x128_S4x16x128x2x8x64_0_1_5_2_4_3) : (⟨S4x16x2x64x8x128, .f32⟩ : BufTy).Contents (Elt F) → (⟨S4x16x128x2x8x64, .f32⟩ : BufTy).Contents (Elt F)),
    reshape main_v119 main_v120 (rfl : (.f32 : EltTy) = .f32) shapeCasts_S4x16x128x2x8x64_S4x2048x1024,
    binary main_v50 main_v120 main_v121 ((fun a b => concatenate S4x2048x2048 2 [⟨S4x2048x1024, a⟩, ⟨S4x2048x1024, b⟩] concatenates_S4x2048x1024_S4x2048x1024_S4x2048x2048_d2) : (⟨S4x2048x1024, .f32⟩ : BufTy).Contents (Elt F) → (⟨S4x2048x1024, .f32⟩ : BufTy).Contents (Elt F) → (⟨S4x2048x2048, .f32⟩ : BufTy).Contents (Elt F)),
    reshape main_v121 main_v122 (rfl : (.f32 : EltTy) = .f32) shapeCasts_S4x2048x2048_S8192x2048,
    unary main_v122 main_v123 ((truncf .bf16 · bitsLt_bf16_f32) : (⟨S8192x2048, .f32⟩ : BufTy).Contents (Elt F) → (⟨S8192x2048, .bf16⟩ : BufTy).Contents (Elt F)) ]

abbrev line15 : List (HloOp τ sig (Elt F)) :=
  [
    reshape main_arg9 main_v124 (rfl : (.f32 : EltTy) = .f32) shapeCasts_S1x2048x2048_S2048x2048,
    unary main_v124 main_v125 ((truncf .bf16 · bitsLt_bf16_f32) : (⟨S2048x2048, .f32⟩ : BufTy).Contents (Elt F) → (⟨S2048x2048, .bf16⟩ : BufTy).Contents (Elt F)),
    reshape main_arg10 main_v126 (rfl : (.f32 : EltTy) = .f32) shapeCasts_S1x2048x2048_S2048x2048,
    unary main_v126 main_v127 ((truncf .bf16 · bitsLt_bf16_f32) : (⟨S2048x2048, .f32⟩ : BufTy).Contents (Elt F) → (⟨S2048x2048, .bf16⟩ : BufTy).Contents (Elt F)) ]

abbrev lines : List (HloOp τ sig (Elt F)) :=
  line0 ++ (line1 ++ (line2 ++ (line3 ++ (line4 ++ (line5 ++ (line6 ++ (line7 ++ (line8 ++ (line9 ++ (line10 ++ (line11 ++ (line12 ++ (line13 ++ (line14 ++ (line15)))))))))))))))

set_option maxHeartbeats 4000000 in
theorem main_eq (c : Dev nD) : main (F := F) c = seq lines := rfl
theorem scopedRefs_none : (Finset.univ.filter fun b : Ref sig .tc => b.isScoped) = ∅ := by decide
theorem scopedSems_none : (Finset.univ.filter fun sm : SemLoc sig => sm.isScoped .tc) = ∅ := by decide
theorem lines_sub : (lines : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., reshape_bufs_sub .., reshape_bufs_sub .., reshape_bufs_sub .., reshape_bufs_sub .., reshape_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., unary_bufs_sub .., nullary_bufs_sub .., unary_bufs_sub .., unary_bufs_sub .., ternary_bufs_sub .., binary_bufs_sub .., unary_bufs_sub .., unary_bufs_sub .., unary_bufs_sub .., unary_bufs_sub .., binary_bufs_sub .., binary_bufs_sub .., reshape_bufs_sub .., reshape_bufs_sub .., unary_bufs_sub .., reshape_bufs_sub .., unary_bufs_sub .., reshape_bufs_sub .., reshape_bufs_sub .., reshape_bufs_sub .., reshape_bufs_sub .., reshape_bufs_sub .., unary_bufs_sub .., nullary_bufs_sub .., unary_bufs_sub .., binary_bufs_sub .., binary_bufs_sub .., unary_bufs_sub .., nullary_bufs_sub .., unary_bufs_sub .., binary_bufs_sub .., binary_bufs_sub .., binary_bufs_sub .., unary_bufs_sub .., nullary_bufs_sub .., unary_bufs_sub .., binary_bufs_sub .., nullary_bufs_sub .., unary_bufs_sub .., nullary_bufs_sub .., unary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., unary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., nullary_bufs_sub .., unary_bufs_sub .., unary_bufs_sub .., unary_bufs_sub .., ternary_bufs_sub .., reshape_bufs_sub .., unary_bufs_sub .., nullary_bufs_sub .., binary_bufs_sub .., unary_bufs_sub .., unary_bufs_sub .., binary_bufs_sub .., unary_bufs_sub .., binary_bufs_sub .., unary_bufs_sub .., nullary_bufs_sub .., binary_bufs_sub .., unary_bufs_sub .., unary_bufs_sub .., binary_bufs_sub .., unary_bufs_sub .., binary_bufs_sub .., unary_bufs_sub .., binary_bufs_sub .., binary_bufs_sub .., unary_bufs_sub .., reshape_bufs_sub .., binary_bufs_sub .., reshape_bufs_sub .., unary_bufs_sub .., reshape_bufs_sub .., unary_bufs_sub .., reshape_bufs_sub .., unary_bufs_sub ..⟩

abbrev wr0 : List (Ref sig .tc) := [main_v0, main_v1, main_v2, main_v3, main_v4, main_v5, main_v6, main_v7, main_v8, main_v9, main_v10, main_v11, main_v12, main_v13]
theorem keep0 (r : Ref sig .tc) (hr : r ∉ wr0) (V : Valuation τ sig (Elt F)) : after line0 V (Proc.devRef .tc r) = V (Proc.devRef .tc r) :=
  after_of_writes_sub line0 V (forall_writes_sub_of_map (W := wr0) rfl) hr
abbrev wr1 : List (Ref sig .tc) := [main_cst, main_v14, main_v15, main_cst_0, main_v16, main_v17]
theorem keep1 (r : Ref sig .tc) (hr : r ∉ wr1) (V : Valuation τ sig (Elt F)) : after line1 V (Proc.devRef .tc r) = V (Proc.devRef .tc r) :=
  after_of_writes_sub line1 V (forall_writes_sub_of_map (W := wr1) rfl) hr
abbrev wr2 : List (Ref sig .tc) := [main_v18, main_v19, main_v20, main_cst_1, main_v21, main_v22, main_cst_2, main_v23, main_v24]
theorem keep2 (r : Ref sig .tc) (hr : r ∉ wr2) (V : Valuation τ sig (Elt F)) : after line2 V (Proc.devRef .tc r) = V (Proc.devRef .tc r) :=
  after_of_writes_sub line2 V (forall_writes_sub_of_map (W := wr2) rfl) hr
abbrev wr3 : List (Ref sig .tc) := [main_v25, main_v26, main_cst_3, main_v27, main_v28, main_v29, main_v30, main_v31, main_v32, main_v33, main_v34, main_v35, main_v36, main_v37]
theorem keep3 (r : Ref sig .tc) (hr : r ∉ wr3) (V : Valuation τ sig (Elt F)) : after line3 V (Proc.devRef .tc r) = V (Proc.devRef .tc r) :=
  after_of_writes_sub line3 V (forall_writes_sub_of_map (W := wr3) rfl) hr
abbrev wr4 : List (Ref sig .tc) := [main_c, main_v38, main_call0_v0, main_call0_c, main_call0_v1, main_call0_v2, main_call0_v3, main_call0_v4, main_call0_c_0, main_call0_v5, main_v39, main_v40, main_cst_4, main_v41, main_call1_v0, main_v42]
theorem keep4 (r : Ref sig .tc) (hr : r ∉ wr4) (V : Valuation τ sig (Elt F)) : after line4 V (Proc.devRef .tc r) = V (Proc.devRef .tc r) :=
  after_of_writes_sub line4 V (forall_writes_sub_of_map (W := wr4) rfl) hr
abbrev wr5 : List (Ref sig .tc) := [main_v43, main_v44, main_v45, main_v46, main_v47, main_v48, main_v49, main_v50]
theorem keep5 (r : Ref sig .tc) (hr : r ∉ wr5) (V : Valuation τ sig (Elt F)) : after line5 V (Proc.devRef .tc r) = V (Proc.devRef .tc r) :=
  after_of_writes_sub line5 V (forall_writes_sub_of_map (W := wr5) rfl) hr
abbrev wr6 : List (Ref sig .tc) := [main_v51, main_v52, main_v53, main_v54, main_v55, main_v56, main_v57, main_v58, main_v59, main_v60, main_c_5, main_call2_v0, main_v61, main_v62, main_v63, main_c_6, main_call3_v0, main_v64, main_v65]
theorem keep6 (r : Ref sig .tc) (hr : r ∉ wr6) (V : Valuation τ sig (Elt F)) : after line6 V (Proc.devRef .tc r) = V (Proc.devRef .tc r) :=
  after_of_writes_sub line6 V (forall_writes_sub_of_map (W := wr6) rfl) hr
abbrev wr7 : List (Ref sig .tc) := [main_v66, main_v67, main_cst_7, main_v68, main_v69]
theorem keep7 (r : Ref sig .tc) (hr : r ∉ wr7) (V : Valuation τ sig (Elt F)) : after line7 V (Proc.devRef .tc r) = V (Proc.devRef .tc r) :=
  after_of_writes_sub line7 V (forall_writes_sub_of_map (W := wr7) rfl) hr
abbrev wr8 : List (Ref sig .tc) := [main_v70, main_v71, main_v72, main_v73, main_c_8, main_v74, main_v75, main_v76, main_v77, main_v78, main_c_9, main_v79, main_v80, main_v81, main_v82, main_v83, main_v84, main_v85, main_v86, main_v87, main_c_10, main_v88, main_v89, main_c_11, main_v90, main_v91, main_v92, main_v93, main_v94, main_v95, main_v96, main_v97, main_v98]
theorem keep8 (r : Ref sig .tc) (hr : r ∉ wr8) (V : Valuation τ sig (Elt F)) : after line8 V (Proc.devRef .tc r) = V (Proc.devRef .tc r) :=
  after_of_writes_sub line8 V (forall_writes_sub_of_map (W := wr8) rfl) hr
abbrev wr9 : List (Ref sig .tc) := [main_v99, main_cst_12, main_call4_v0, main_call4_v1, main_call4_v2, main_v100, main_v101, main_v102]
theorem keep9 (r : Ref sig .tc) (hr : r ∉ wr9) (V : Valuation τ sig (Elt F)) : after line9 V (Proc.devRef .tc r) = V (Proc.devRef .tc r) :=
  after_of_writes_sub line9 V (forall_writes_sub_of_map (W := wr9) rfl) hr
abbrev wr10 : List (Ref sig .tc) := [main_cst_13, main_v103]
theorem keep10 (r : Ref sig .tc) (hr : r ∉ wr10) (V : Valuation τ sig (Elt F)) : after line10 V (Proc.devRef .tc r) = V (Proc.devRef .tc r) :=
  after_of_writes_sub line10 V (forall_writes_sub_of_map (W := wr10) rfl) hr
abbrev wr11 : List (Ref sig .tc) := [main_v104, main_v105, main_v106]
theorem keep11 (r : Ref sig .tc) (hr : r ∉ wr11) (V : Valuation τ sig (Elt F)) : after line11 V (Proc.devRef .tc r) = V (Proc.devRef .tc r) :=
  after_of_writes_sub line11 V (forall_writes_sub_of_map (W := wr11) rfl) hr
abbrev wr12 : List (Ref sig .tc) := [main_v107, main_v108, main_v109]
theorem keep12 (r : Ref sig .tc) (hr : r ∉ wr12) (V : Valuation τ sig (Elt F)) : after line12 V (Proc.devRef .tc r) = V (Proc.devRef .tc r) :=
  after_of_writes_sub line12 V (forall_writes_sub_of_map (W := wr12) rfl) hr
abbrev wr13 : List (Ref sig .tc) := [main_cst_14, main_v110, main_v111, main_v112, main_v113, main_v114, main_v115]
theorem keep13 (r : Ref sig .tc) (hr : r ∉ wr13) (V : Valuation τ sig (Elt F)) : after line13 V (Proc.devRef .tc r) = V (Proc.devRef .tc r) :=
  after_of_writes_sub line13 V (forall_writes_sub_of_map (W := wr13) rfl) hr
abbrev wr14 : List (Ref sig .tc) := [main_v116, main_v117, main_v118, main_v119, main_v120, main_v121, main_v122, main_v123]
theorem keep14 (r : Ref sig .tc) (hr : r ∉ wr14) (V : Valuation τ sig (Elt F)) : after line14 V (Proc.devRef .tc r) = V (Proc.devRef .tc r) :=
  after_of_writes_sub line14 V (forall_writes_sub_of_map (W := wr14) rfl) hr
abbrev wr15 : List (Ref sig .tc) := [main_v124, main_v125, main_v126, main_v127]
theorem keep15 (r : Ref sig .tc) (hr : r ∉ wr15) (V : Valuation τ sig (Elt F)) : after line15 V (Proc.devRef .tc r) = V (Proc.devRef .tc r) :=
  after_of_writes_sub line15 V (forall_writes_sub_of_map (W := wr15) rfl) hr
end

set_option maxHeartbeats 4000000 in
theorem read_castQ (V : Valuation τ sig (Elt Ideal)) : after (line0 (F := Ideal)) V (Proc.devRef .tc main_v5) = castQ (V (Proc.devRef .tc main_arg2)) := by
  after_results_simp <;> rfl
set_option maxHeartbeats 4000000 in
theorem read_castKV (V : Valuation τ sig (Elt Ideal)) : after (line0 (F := Ideal)) V (Proc.devRef .tc main_v7) = castKV (V (Proc.devRef .tc main_arg3)) := by
  after_results_simp <;> rfl
set_option maxHeartbeats 4000000 in
theorem read_gainR (V : Valuation τ sig (Elt Ideal)) : after (line0 (F := Ideal)) V (Proc.devRef .tc main_v8) = gainR (V (Proc.devRef .tc main_arg4)) := by
  after_results_simp <;> rfl
set_option maxHeartbeats 4000000 in
theorem read_shiftR (V : Valuation τ sig (Elt Ideal)) : after (line0 (F := Ideal)) V (Proc.devRef .tc main_v9) = shiftR (V (Proc.devRef .tc main_arg5)) := by
  after_results_simp <;> rfl
set_option maxHeartbeats 4000000 in
theorem read_spatR (V : Valuation τ sig (Elt Ideal)) : after (line0 (F := Ideal)) V (Proc.devRef .tc main_v10) = spatR (V (Proc.devRef .tc main_arg6)) := by
  after_results_simp <;> rfl
set_option maxHeartbeats 4000000 in
theorem read_biasR (V : Valuation τ sig (Elt Ideal)) : after (line0 (F := Ideal)) V (Proc.devRef .tc main_v11) = biasR (V (Proc.devRef .tc main_arg7)) := by
  after_results_simp <;> rfl
set_option maxHeartbeats 4000000 in
theorem read_gateU (V : Valuation τ sig (Elt Ideal)) : after (line0 (F := Ideal)) V (Proc.devRef .tc main_v12) = gateU (V (Proc.devRef .tc main_arg0)) := by
  after_results_simp <;> rfl
set_option maxHeartbeats 4000000 in
theorem read_gateV (V : Valuation τ sig (Elt Ideal)) : after (line0 (F := Ideal)) V (Proc.devRef .tc main_v13) = gateV (V (Proc.devRef .tc main_arg1)) := by
  after_results_simp <;> rfl
set_option maxHeartbeats 4000000 in
theorem read_meanR (V : Valuation τ sig (Elt Ideal)) : after (line1 (F := Ideal)) V (Proc.devRef .tc main_v17) = meanR (V (Proc.devRef .tc main_v13)) := by
  after_results_simp <;> rfl
set_option maxHeartbeats 4000000 in
theorem read_varR (V : Valuation τ sig (Elt Ideal)) : after (line2 (F := Ideal)) V (Proc.devRef .tc main_v24) = varR (V (Proc.devRef .tc main_v13)) (V (Proc.devRef .tc main_v17)) := by
  after_results_simp <;> rfl
set_option maxHeartbeats 4000000 in
theorem read_normR (V : Valuation τ sig (Elt Ideal)) : after (line3 (F := Ideal)) V (Proc.devRef .tc main_v37) = normR (V (Proc.devRef .tc main_v13)) (V (Proc.devRef .tc main_v17)) (V (Proc.devRef .tc main_v24)) (V (Proc.devRef .tc main_v8)) (V (Proc.devRef .tc main_v9)) := by
  after_results_simp <;> rfl
set_option maxHeartbeats 4000000 in
theorem read_lowR (V : Valuation τ sig (Elt Ideal)) : after (line4 (F := Ideal)) V (Proc.devRef .tc main_v42) = lowR (V (Proc.devRef .tc main_v10)) := by
  simp only [line4, TRef.binary, TRef.nullary, TRef.ternary, TRef.unary, TRef.toBuf, TRef.ofBuf, cast_eq]; after_results_simp <;> rfl
set_option maxHeartbeats 4000000 in
theorem read_gatedR (V : Valuation τ sig (Elt Ideal)) : after (line5 (F := Ideal)) V (Proc.devRef .tc main_v50) = gatedR (V (Proc.devRef .tc main_v12)) (V (Proc.devRef .tc main_v37)) (V (Proc.devRef .tc main_v42)) (V (Proc.devRef .tc main_v11)) := by
  after_results_simp <;> rfl
set_option maxHeartbeats 4000000 in
theorem read_sinkR (V : Valuation τ sig (Elt Ideal)) : after (line6 (F := Ideal)) V (Proc.devRef .tc main_v56) = sinkR (V (Proc.devRef .tc main_arg8)) := by
  simp only [line6, TRef.binary, TRef.nullary, TRef.ternary, TRef.unary, TRef.toBuf, TRef.ofBuf, cast_eq]; after_results_simp <;> rfl
set_option maxHeartbeats 4000000 in
theorem read_qryR (V : Valuation τ sig (Elt Ideal)) : after (line6 (F := Ideal)) V (Proc.devRef .tc main_v57) = qryR (V (Proc.devRef .tc main_v5)) := by
  simp only [line6, TRef.binary, TRef.nullary, TRef.ternary, TRef.unary, TRef.toBuf, TRef.ofBuf, cast_eq]; after_results_simp <;> rfl
set_option maxHeartbeats 4000000 in
theorem read_keysR (V : Valuation τ sig (Elt Ideal)) : after (line6 (F := Ideal)) V (Proc.devRef .tc main_v62) = keysR (V (Proc.devRef .tc main_v7)) := by
  simp only [line6, TRef.binary, TRef.nullary, TRef.ternary, TRef.unary, TRef.toBuf, TRef.ofBuf, cast_eq]; after_results_simp <;> rfl
set_option maxHeartbeats 4000000 in
theorem read_valsR (V : Valuation τ sig (Elt Ideal)) : after (line6 (F := Ideal)) V (Proc.devRef .tc main_v65) = valsR (V (Proc.devRef .tc main_v7)) := by
  simp only [line6, TRef.binary, TRef.nullary, TRef.ternary, TRef.unary, TRef.toBuf, TRef.ofBuf, cast_eq]; after_results_simp <;> rfl
set_option maxHeartbeats 4000000 in
theorem read_dotsR (V : Valuation τ sig (Elt Ideal)) : after (line7 (F := Ideal)) V (Proc.devRef .tc main_v69) = dotsR (V (Proc.devRef .tc main_v62)) (V (Proc.devRef .tc main_v57)) := by
  after_results_simp <;> rfl
set_option maxHeartbeats 4000000 in
theorem read_bandR (V : Valuation τ sig (Elt Ideal)) : after (line8 (F := Ideal)) V (Proc.devRef .tc main_v98) = bandR  := by
  after_results_simp <;> rfl
set_option maxHeartbeats 4000000 in
theorem read_scoreR (V : Valuation τ sig (Elt Ideal)) : after (line9 (F := Ideal)) V (Proc.devRef .tc main_v100) = scoreR (V (Proc.devRef .tc main_v98)) (V (Proc.devRef .tc main_v69)) := by
  simp only [line9, TRef.binary, TRef.nullary, TRef.ternary, TRef.unary, TRef.toBuf, TRef.ofBuf, cast_eq]; after_results_simp <;> rfl
set_option maxHeartbeats 4000000 in
theorem read_sinkB (V : Valuation τ sig (Elt Ideal)) : after (line9 (F := Ideal)) V (Proc.devRef .tc main_v102) = sinkB (V (Proc.devRef .tc main_v56)) := by
  simp only [line9, TRef.binary, TRef.nullary, TRef.ternary, TRef.unary, TRef.toBuf, TRef.ofBuf, cast_eq]; after_results_simp <;> rfl
set_option maxHeartbeats 4000000 in
theorem read_peakR (V : Valuation τ sig (Elt Ideal)) : after (line10 (F := Ideal)) V (Proc.devRef .tc main_v103) = peakR (V (Proc.devRef .tc main_v100)) := by
  after_results_simp <;> rfl
set_option maxHeartbeats 4000000 in
theorem read_topR (V : Valuation τ sig (Elt Ideal)) : after (line11 (F := Ideal)) V (Proc.devRef .tc main_v106) = topR (V (Proc.devRef .tc main_v103)) (V (Proc.devRef .tc main_v102)) := by
  after_results_simp <;> rfl
set_option maxHeartbeats 4000000 in
theorem read_expR (V : Valuation τ sig (Elt Ideal)) : after (line12 (F := Ideal)) V (Proc.devRef .tc main_v109) = expR (V (Proc.devRef .tc main_v100)) (V (Proc.devRef .tc main_v106)) := by
  after_results_simp <;> rfl
set_option maxHeartbeats 4000000 in
theorem read_denR (V : Valuation τ sig (Elt Ideal)) : after (line13 (F := Ideal)) V (Proc.devRef .tc main_v115) = denR (V (Proc.devRef .tc main_v109)) (V (Proc.devRef .tc main_v102)) (V (Proc.devRef .tc main_v106)) := by
  after_results_simp <;> rfl
set_option maxHeartbeats 4000000 in
theorem read_mixR (V : Valuation τ sig (Elt Ideal)) : after (line14 (F := Ideal)) V (Proc.devRef .tc main_v123) = mixR (V (Proc.devRef .tc main_v50)) (V (Proc.devRef .tc main_v65)) (V (Proc.devRef .tc main_v109)) (V (Proc.devRef .tc main_v115)) := by
  after_results_simp <;> rfl
set_option maxHeartbeats 4000000 in
theorem read_woR (V : Valuation τ sig (Elt Ideal)) : after (line15 (F := Ideal)) V (Proc.devRef .tc main_v125) = woR (V (Proc.devRef .tc main_arg9)) := by
  after_results_simp <;> rfl
set_option maxHeartbeats 4000000 in
theorem read_wqR (V : Valuation τ sig (Elt Ideal)) : after (line15 (F := Ideal)) V (Proc.devRef .tc main_v127) = wqR (V (Proc.devRef .tc main_arg10)) := by
  after_results_simp <;> rfl

end Cert.ReferenceIdeal.Own
end
-- ==== Proof.Own.MixRefRun.lean ====
module
public import proofs.«01_k».proof.Proof.Own.MixRefPure
@[expose] public section
set_option maxRecDepth 16384
noncomputable section
namespace Cert.ReferenceIdeal.Own
open Cert.ReferenceIdeal Cert.ReferenceIdeal.Gen Idealize.ShloMosaic Idealize.ShloMosaic.TcCoe Idealize.SL.Sem Idealize.ShloMosaic.StableHlo

/-- The memory the run starts from. -/
abbrev Mem := (ℓ : Loc nD τ sig) → Buf (Elt Ideal) ℓ

/-- The contents before segment 0. -/
def st0 (m : Mem) (c : Dev nD) : Valuation τ sig (Elt Ideal) := launchContents m c
/-- The contents before segment 1. -/
def st1 (m : Mem) (c : Dev nD) : Valuation τ sig (Elt Ideal) := after (line0 (F := Ideal)) (st0 m c)
/-- The contents before segment 2. -/
def st2 (m : Mem) (c : Dev nD) : Valuation τ sig (Elt Ideal) := after (line1 (F := Ideal)) (st1 m c)
/-- The contents before segment 3. -/
def st3 (m : Mem) (c : Dev nD) : Valuation τ sig (Elt Ideal) := after (line2 (F := Ideal)) (st2 m c)
/-- The contents before segment 4. -/
def st4 (m : Mem) (c : Dev nD) : Valuation τ sig (Elt Ideal) := after (line3 (F := Ideal)) (st3 m c)
/-- The contents before segment 5. -/
def st5 (m : Mem) (c : Dev nD) : Valuation τ sig (Elt Ideal) := after (line4 (F := Ideal)) (st4 m c)
/-- The contents before segment 6. -/
def st6 (m : Mem) (c : Dev nD) : Valuation τ sig (Elt Ideal) := after (line5 (F := Ideal)) (st5 m c)
/-- The contents before segment 7. -/
def st7 (m : Mem) (c : Dev nD) : Valuation τ sig (Elt Ideal) := after (line6 (F := Ideal)) (st6 m c)
/-- The contents before segment 8. -/
def st8 (m : Mem) (c : Dev nD) : Valuation τ sig (Elt Ideal) := after (line7 (F := Ideal)) (st7 m c)
/-- The contents before segment 9. -/
def st9 (m : Mem) (c : Dev nD) : Valuation τ sig (Elt Ideal) := after (line8 (F := Ideal)) (st8 m c)
/-- The contents before segment 10. -/
def st10 (m : Mem) (c : Dev nD) : Valuation τ sig (Elt Ideal) := after (line9 (F := Ideal)) (st9 m c)
/-- The contents before segment 11. -/
def st11 (m : Mem) (c : Dev nD) : Valuation τ sig (Elt Ideal) := after (line10 (F := Ideal)) (st10 m c)
/-- The contents before segment 12. -/
def st12 (m : Mem) (c : Dev nD) : Valuation τ sig (Elt Ideal) := after (line11 (F := Ideal)) (st11 m c)
/-- The contents before segment 13. -/
def st13 (m : Mem) (c : Dev nD) : Valuation τ sig (Elt Ideal) := after (line12 (F := Ideal)) (st12 m c)
/-- The contents before segment 14. -/
def st14 (m : Mem) (c : Dev nD) : Valuation τ sig (Elt Ideal) := after (line13 (F := Ideal)) (st13 m c)
/-- The contents before segment 15. -/
def st15 (m : Mem) (c : Dev nD) : Valuation τ sig (Elt Ideal) := after (line14 (F := Ideal)) (st14 m c)
/-- The contents before segment 16. -/
def st16 (m : Mem) (c : Dev nD) : Valuation τ sig (Elt Ideal) := after (line15 (F := Ideal)) (st15 m c)

def v_castQ (m : Mem) (c : Dev nD) : FVec Ideal S4x2048x1024 .f32 := castQ (m ((c.tc : Thread nD τ).loc main_arg2))
def v_castKV (m : Mem) (c : Dev nD) : FVec Ideal S4x2048x256 .f32 := castKV (m ((c.tc : Thread nD τ).loc main_arg3))
def v_gainR (m : Mem) (c : Dev nD) : FVec Ideal S8x128 .f32 := gainR (m ((c.tc : Thread nD τ).loc main_arg4))
def v_shiftR (m : Mem) (c : Dev nD) : FVec Ideal S8x128 .f32 := shiftR (m ((c.tc : Thread nD τ).loc main_arg5))
def v_spatR (m : Mem) (c : Dev nD) : FVec Ideal S8x128x128 .f32 := spatR (m ((c.tc : Thread nD τ).loc main_arg6))
def v_biasR (m : Mem) (c : Dev nD) : FVec Ideal S8x128 .f32 := biasR (m ((c.tc : Thread nD τ).loc main_arg7))
def v_gateU (m : Mem) (c : Dev nD) : FVec Ideal S4x16x128x8x128 .f32 := gateU (m ((c.tc : Thread nD τ).loc main_arg0))
def v_gateV (m : Mem) (c : Dev nD) : FVec Ideal S4x16x128x8x128 .f32 := gateV (m ((c.tc : Thread nD τ).loc main_arg1))
def v_meanR (m : Mem) (c : Dev nD) : FVec Ideal S4x16x128x8x1 .f32 := meanR (v_gateV m c)
def v_varR (m : Mem) (c : Dev nD) : FVec Ideal S4x16x128x8x1 .f32 := varR (v_gateV m c) (v_meanR m c)
def v_normR (m : Mem) (c : Dev nD) : FVec Ideal S4x16x128x8x128 .f32 := normR (v_gateV m c) (v_meanR m c) (v_varR m c) (v_gainR m c) (v_shiftR m c)
def v_lowR (m : Mem) (c : Dev nD) : FVec Ideal S8x128x128 .f32 := lowR (v_spatR m c)
def v_gatedR (m : Mem) (c : Dev nD) : FVec Ideal S4x2048x1024 .f32 := gatedR (v_gateU m c) (v_normR m c) (v_lowR m c) (v_biasR m c)
def v_sinkR (m : Mem) (c : Dev nD) : FVec Ideal S16 .f32 := sinkR (m ((c.tc : Thread nD τ).loc main_arg8))
def v_qryR (m : Mem) (c : Dev nD) : FVec Ideal S4x16x128x2x8x64 .f32 := qryR (v_castQ m c)
def v_keysR (m : Mem) (c : Dev nD) : FVec Ideal S4x16x256x2x64 .f32 := keysR (v_castKV m c)
def v_valsR (m : Mem) (c : Dev nD) : FVec Ideal S4x16x256x2x64 .f32 := valsR (v_castKV m c)
def v_dotsR (m : Mem) (c : Dev nD) : FVec Ideal S4x16x2x8x128x256 .f32 := dotsR (v_keysR m c) (v_qryR m c)
def v_bandR (m : Mem) (c : Dev nD) : IVec S16x128x256 1 := bandR
def v_scoreR (m : Mem) (c : Dev nD) : FVec Ideal S4x16x2x8x128x256 .f32 := scoreR (v_bandR m c) (v_dotsR m c)
def v_sinkB (m : Mem) (c : Dev nD) : FVec Ideal S1x1x2x8x1x1 .f32 := sinkB (v_sinkR m c)
def v_peakR (m : Mem) (c : Dev nD) : FVec Ideal S4x16x2x8x128 .f32 := peakR (v_scoreR m c)
def v_topR (m : Mem) (c : Dev nD) : FVec Ideal S4x16x2x8x128x1 .f32 := topR (v_peakR m c) (v_sinkB m c)
def v_expR (m : Mem) (c : Dev nD) : FVec Ideal S4x16x2x8x128x256 .f32 := expR (v_scoreR m c) (v_topR m c)
def v_denR (m : Mem) (c : Dev nD) : FVec Ideal S4x16x2x8x128x1 .f32 := denR (v_expR m c) (v_sinkB m c) (v_topR m c)
def v_mixR (m : Mem) (c : Dev nD) : FVec Ideal S8192x2048 .bf16 := mixR (v_gatedR m c) (v_valsR m c) (v_expR m c) (v_denR m c)
def v_woR (m : Mem) (c : Dev nD) : FVec Ideal S2048x2048 .bf16 := woR (m ((c.tc : Thread nD τ).loc main_arg9))
def v_wqR (m : Mem) (c : Dev nD) : FVec Ideal S2048x2048 .bf16 := wqR (m ((c.tc : Thread nD τ).loc main_arg10))

theorem at_castQ (m : Mem) (c : Dev nD) : st1 m c (Proc.devRef .tc main_v5) = v_castQ m c := by
  unfold st1 v_castQ
  rw [read_castQ]
  have h0 : st0 m c (Proc.devRef .tc main_arg2) = (m ((c.tc : Thread nD τ).loc main_arg2)) := rfl
  rw [h0]
theorem at_castKV (m : Mem) (c : Dev nD) : st1 m c (Proc.devRef .tc main_v7) = v_castKV m c := by
  unfold st1 v_castKV
  rw [read_castKV]
  have h0 : st0 m c (Proc.devRef .tc main_arg3) = (m ((c.tc : Thread nD τ).loc main_arg3)) := rfl
  rw [h0]
theorem at_gainR (m : Mem) (c : Dev nD) : st1 m c (Proc.devRef .tc main_v8) = v_gainR m c := by
  unfold st1 v_gainR
  rw [read_gainR]
  have h0 : st0 m c (Proc.devRef .tc main_arg4) = (m ((c.tc : Thread nD τ).loc main_arg4)) := rfl
  rw [h0]
theorem at_shiftR (m : Mem) (c : Dev nD) : st1 m c (Proc.devRef .tc main_v9) = v_shiftR m c := by
  unfold st1 v_shiftR
  rw [read_shiftR]
  have h0 : st0 m c (Proc.devRef .tc main_arg5) = (m ((c.tc : Thread nD τ).loc main_arg5)) := rfl
  rw [h0]
theorem at_spatR (m : Mem) (c : Dev nD) : st1 m c (Proc.devRef .tc main_v10) = v_spatR m c := by
  unfold st1 v_spatR
  rw [read_spatR]
  have h0 : st0 m c (Proc.devRef .tc main_arg6) = (m ((c.tc : Thread nD τ).loc main_arg6)) := rfl
  rw [h0]
theorem at_biasR (m : Mem) (c : Dev nD) : st1 m c (Proc.devRef .tc main_v11) = v_biasR m c := by
  unfold st1 v_biasR
  rw [read_biasR]
  have h0 : st0 m c (Proc.devRef .tc main_arg7) = (m ((c.tc : Thread nD τ).loc main_arg7)) := rfl
  rw [h0]
theorem at_gateU (m : Mem) (c : Dev nD) : st1 m c (Proc.devRef .tc main_v12) = v_gateU m c := by
  unfold st1 v_gateU
  rw [read_gateU]
  have h0 : st0 m c (Proc.devRef .tc main_arg0) = (m ((c.tc : Thread nD τ).loc main_arg0)) := rfl
  rw [h0]
theorem at_gateV (m : Mem) (c : Dev nD) : st1 m c (Proc.devRef .tc main_v13) = v_gateV m c := by
  unfold st1 v_gateV
  rw [read_gateV]
  have h0 : st0 m c (Proc.devRef .tc main_arg1) = (m ((c.tc : Thread nD τ).loc main_arg1)) := rfl
  rw [h0]
theorem at_meanR (m : Mem) (c : Dev nD) : st2 m c (Proc.devRef .tc main_v17) = v_meanR m c := by
  unfold st2 v_meanR
  rw [read_meanR]
  have h0 : st1 m c (Proc.devRef .tc main_v13) = (v_gateV m c) := (at_gateV m c)
  rw [h0]
theorem at_varR (m : Mem) (c : Dev nD) : st3 m c (Proc.devRef .tc main_v24) = v_varR m c := by
  unfold st3 v_varR
  rw [read_varR]
  have h0 : st2 m c (Proc.devRef .tc main_v13) = (v_gateV m c) := ((keep1 main_v13 (by decide) _).trans (at_gateV m c))
  have h1 : st2 m c (Proc.devRef .tc main_v17) = (v_meanR m c) := (at_meanR m c)
  rw [h0, h1]
theorem at_normR (m : Mem) (c : Dev nD) : st4 m c (Proc.devRef .tc main_v37) = v_normR m c := by
  unfold st4 v_normR
  rw [read_normR]
  have h0 : st3 m c (Proc.devRef .tc main_v13) = (v_gateV m c) := ((keep2 main_v13 (by decide) _).trans ((keep1 main_v13 (by decide) _).trans (at_gateV m c)))
  have h1 : st3 m c (Proc.devRef .tc main_v17) = (v_meanR m c) := ((keep2 main_v17 (by decide) _).trans (at_meanR m c))
  have h2 : st3 m c (Proc.devRef .tc main_v24) = (v_varR m c) := (at_varR m c)
  have h3 : st3 m c (Proc.devRef .tc main_v8) = (v_gainR m c) := ((keep2 main_v8 (by decide) _).trans ((keep1 main_v8 (by decide) _).trans (at_gainR m c)))
  have h4 : st3 m c (Proc.devRef .tc main_v9) = (v_shiftR m c) := ((keep2 main_v9 (by decide) _).trans ((keep1 main_v9 (by decide) _).trans (at_shiftR m c)))
  rw [h0, h1, h2, h3, h4]
theorem at_lowR (m : Mem) (c : Dev nD) : st5 m c (Proc.devRef .tc main_v42) = v_lowR m c := by
  unfold st5 v_lowR
  rw [read_lowR]
  have h0 : st4 m c (Proc.devRef .tc main_v10) = (v_spatR m c) := ((keep3 main_v10 (by decide) _).trans ((keep2 main_v10 (by decide) _).trans ((keep1 main_v10 (by decide) _).trans (at_spatR m c))))
  rw [h0]
theorem at_gatedR (m : Mem) (c : Dev nD) : st6 m c (Proc.devRef .tc main_v50) = v_gatedR m c := by
  unfold st6 v_gatedR
  rw [read_gatedR]
  have h0 : st5 m c (Proc.devRef .tc main_v12) = (v_gateU m c) := ((keep4 main_v12 (by decide) _).trans ((keep3 main_v12 (by decide) _).trans ((keep2 main_v12 (by decide) _).trans ((keep1 main_v12 (by decide) _).trans (at_gateU m c)))))
  have h1 : st5 m c (Proc.devRef .tc main_v37) = (v_normR m c) := ((keep4 main_v37 (by decide) _).trans (at_normR m c))
  have h2 : st5 m c (Proc.devRef .tc main_v42) = (v_lowR m c) := (at_lowR m c)
  have h3 : st5 m c (Proc.devRef .tc main_v11) = (v_biasR m c) := ((keep4 main_v11 (by decide) _).trans ((keep3 main_v11 (by decide) _).trans ((keep2 main_v11 (by decide) _).trans ((keep1 main_v11 (by decide) _).trans (at_biasR m c)))))
  rw [h0, h1, h2, h3]
theorem at_sinkR (m : Mem) (c : Dev nD) : st7 m c (Proc.devRef .tc main_v56) = v_sinkR m c := by
  unfold st7 v_sinkR
  rw [read_sinkR]
  have h0 : st6 m c (Proc.devRef .tc main_arg8) = (m ((c.tc : Thread nD τ).loc main_arg8)) := ((keep5 main_arg8 (by decide) _).trans ((keep4 main_arg8 (by decide) _).trans ((keep3 main_arg8 (by decide) _).trans ((keep2 main_arg8 (by decide) _).trans ((keep1 main_arg8 (by decide) _).trans ((keep0 main_arg8 (by decide) _).trans rfl))))))
  rw [h0]
theorem at_qryR (m : Mem) (c : Dev nD) : st7 m c (Proc.devRef .tc main_v57) = v_qryR m c := by
  unfold st7 v_qryR
  rw [read_qryR]
  have h0 : st6 m c (Proc.devRef .tc main_v5) = (v_castQ m c) := ((keep5 main_v5 (by decide) _).trans ((keep4 main_v5 (by decide) _).trans ((keep3 main_v5 (by decide) _).trans ((keep2 main_v5 (by decide) _).trans ((keep1 main_v5 (by decide) _).trans (at_castQ m c))))))
  rw [h0]
theorem at_keysR (m : Mem) (c : Dev nD) : st7 m c (Proc.devRef .tc main_v62) = v_keysR m c := by
  unfold st7 v_keysR
  rw [read_keysR]
  have h0 : st6 m c (Proc.devRef .tc main_v7) = (v_castKV m c) := ((keep5 main_v7 (by decide) _).trans ((keep4 main_v7 (by decide) _).trans ((keep3 main_v7 (by decide) _).trans ((keep2 main_v7 (by decide) _).trans ((keep1 main_v7 (by decide) _).trans (at_castKV m c))))))
  rw [h0]
theorem at_valsR (m : Mem) (c : Dev nD) : st7 m c (Proc.devRef .tc main_v65) = v_valsR m c := by
  unfold st7 v_valsR
  rw [read_valsR]
  have h0 : st6 m c (Proc.devRef .tc main_v7) = (v_castKV m c) := ((keep5 main_v7 (by decide) _).trans ((keep4 main_v7 (by decide) _).trans ((keep3 main_v7 (by decide) _).trans ((keep2 main_v7 (by decide) _).trans ((keep1 main_v7 (by decide) _).trans (at_castKV m c))))))
  rw [h0]
theorem at_dotsR (m : Mem) (c : Dev nD) : st8 m c (Proc.devRef .tc main_v69) = v_dotsR m c := by
  unfold st8 v_dotsR
  rw [read_dotsR]
  have h0 : st7 m c (Proc.devRef .tc main_v62) = (v_keysR m c) := (at_keysR m c)
  have h1 : st7 m c (Proc.devRef .tc main_v57) = (v_qryR m c) := (at_qryR m c)
  rw [h0, h1]
theorem at_bandR (m : Mem) (c : Dev nD) : st9 m c (Proc.devRef .tc main_v98) = v_bandR m c := by
  unfold st9 v_bandR
  rw [read_bandR]
theorem at_scoreR (m : Mem) (c : Dev nD) : st10 m c (Proc.devRef .tc main_v100) = v_scoreR m c := by
  unfold st10 v_scoreR
  rw [read_scoreR]
  have h0 : st9 m c (Proc.devRef .tc main_v98) = (v_bandR m c) := (at_bandR m c)
  have h1 : st9 m c (Proc.devRef .tc main_v69) = (v_dotsR m c) := ((keep8 main_v69 (by decide) _).trans (at_dotsR m c))
  rw [h0, h1]
theorem at_sinkB (m : Mem) (c : Dev nD) : st10 m c (Proc.devRef .tc main_v102) = v_sinkB m c := by
  unfold st10 v_sinkB
  rw [read_sinkB]
  have h0 : st9 m c (Proc.devRef .tc main_v56) = (v_sinkR m c) := ((keep8 main_v56 (by decide) _).trans ((keep7 main_v56 (by decide) _).trans (at_sinkR m c)))
  rw [h0]
theorem at_peakR (m : Mem) (c : Dev nD) : st11 m c (Proc.devRef .tc main_v103) = v_peakR m c := by
  unfold st11 v_peakR
  rw [read_peakR]
  have h0 : st10 m c (Proc.devRef .tc main_v100) = (v_scoreR m c) := (at_scoreR m c)
  rw [h0]
theorem at_topR (m : Mem) (c : Dev nD) : st12 m c (Proc.devRef .tc main_v106) = v_topR m c := by
  unfold st12 v_topR
  rw [read_topR]
  have h0 : st11 m c (Proc.devRef .tc main_v103) = (v_peakR m c) := (at_peakR m c)
  have h1 : st11 m c (Proc.devRef .tc main_v102) = (v_sinkB m c) := ((keep10 main_v102 (by decide) _).trans (at_sinkB m c))
  rw [h0, h1]
theorem at_expR (m : Mem) (c : Dev nD) : st13 m c (Proc.devRef .tc main_v109) = v_expR m c := by
  unfold st13 v_expR
  rw [read_expR]
  have h0 : st12 m c (Proc.devRef .tc main_v100) = (v_scoreR m c) := ((keep11 main_v100 (by decide) _).trans ((keep10 main_v100 (by decide) _).trans (at_scoreR m c)))
  have h1 : st12 m c (Proc.devRef .tc main_v106) = (v_topR m c) := (at_topR m c)
  rw [h0, h1]
theorem at_denR (m : Mem) (c : Dev nD) : st14 m c (Proc.devRef .tc main_v115) = v_denR m c := by
  unfold st14 v_denR
  rw [read_denR]
  have h0 : st13 m c (Proc.devRef .tc main_v109) = (v_expR m c) := (at_expR m c)
  have h1 : st13 m c (Proc.devRef .tc main_v102) = (v_sinkB m c) := ((keep12 main_v102 (by decide) _).trans ((keep11 main_v102 (by decide) _).trans ((keep10 main_v102 (by decide) _).trans (at_sinkB m c))))
  have h2 : st13 m c (Proc.devRef .tc main_v106) = (v_topR m c) := ((keep12 main_v106 (by decide) _).trans (at_topR m c))
  rw [h0, h1, h2]
theorem at_mixR (m : Mem) (c : Dev nD) : st15 m c (Proc.devRef .tc main_v123) = v_mixR m c := by
  unfold st15 v_mixR
  rw [read_mixR]
  have h0 : st14 m c (Proc.devRef .tc main_v50) = (v_gatedR m c) := ((keep13 main_v50 (by decide) _).trans ((keep12 main_v50 (by decide) _).trans ((keep11 main_v50 (by decide) _).trans ((keep10 main_v50 (by decide) _).trans ((keep9 main_v50 (by decide) _).trans ((keep8 main_v50 (by decide) _).trans ((keep7 main_v50 (by decide) _).trans ((keep6 main_v50 (by decide) _).trans (at_gatedR m c)))))))))
  have h1 : st14 m c (Proc.devRef .tc main_v65) = (v_valsR m c) := ((keep13 main_v65 (by decide) _).trans ((keep12 main_v65 (by decide) _).trans ((keep11 main_v65 (by decide) _).trans ((keep10 main_v65 (by decide) _).trans ((keep9 main_v65 (by decide) _).trans ((keep8 main_v65 (by decide) _).trans ((keep7 main_v65 (by decide) _).trans (at_valsR m c))))))))
  have h2 : st14 m c (Proc.devRef .tc main_v109) = (v_expR m c) := ((keep13 main_v109 (by decide) _).trans (at_expR m c))
  have h3 : st14 m c (Proc.devRef .tc main_v115) = (v_denR m c) := (at_denR m c)
  rw [h0, h1, h2, h3]
theorem at_woR (m : Mem) (c : Dev nD) : st16 m c (Proc.devRef .tc main_v125) = v_woR m c := by
  unfold st16 v_woR
  rw [read_woR]
  have h0 : st15 m c (Proc.devRef .tc main_arg9) = (m ((c.tc : Thread nD τ).loc main_arg9)) := ((keep14 main_arg9 (by decide) _).trans ((keep13 main_arg9 (by decide) _).trans ((keep12 main_arg9 (by decide) _).trans ((keep11 main_arg9 (by decide) _).trans ((keep10 main_arg9 (by decide) _).trans ((keep9 main_arg9 (by decide) _).trans ((keep8 main_arg9 (by decide) _).trans ((keep7 main_arg9 (by decide) _).trans ((keep6 main_arg9 (by decide) _).trans ((keep5 main_arg9 (by decide) _).trans ((keep4 main_arg9 (by decide) _).trans ((keep3 main_arg9 (by decide) _).trans ((keep2 main_arg9 (by decide) _).trans ((keep1 main_arg9 (by decide) _).trans ((keep0 main_arg9 (by decide) _).trans rfl)))))))))))))))
  rw [h0]
theorem at_wqR (m : Mem) (c : Dev nD) : st16 m c (Proc.devRef .tc main_v127) = v_wqR m c := by
  unfold st16 v_wqR
  rw [read_wqR]
  have h0 : st15 m c (Proc.devRef .tc main_arg10) = (m ((c.tc : Thread nD τ).loc main_arg10)) := ((keep14 main_arg10 (by decide) _).trans ((keep13 main_arg10 (by decide) _).trans ((keep12 main_arg10 (by decide) _).trans ((keep11 main_arg10 (by decide) _).trans ((keep10 main_arg10 (by decide) _).trans ((keep9 main_arg10 (by decide) _).trans ((keep8 main_arg10 (by decide) _).trans ((keep7 main_arg10 (by decide) _).trans ((keep6 main_arg10 (by decide) _).trans ((keep5 main_arg10 (by decide) _).trans ((keep4 main_arg10 (by decide) _).trans ((keep3 main_arg10 (by decide) _).trans ((keep2 main_arg10 (by decide) _).trans ((keep1 main_arg10 (by decide) _).trans ((keep0 main_arg10 (by decide) _).trans rfl)))))))))))))))
  rw [h0]

theorem after_lines (m : Mem) (c : Dev nD) : after (lines (F := Ideal)) (launchContents m c) = st16 m c := by
  simp only [lines, after_append]
  rfl

theorem run (m : Mem) (ρ : Dev nD → PrngReg) :
    θ_run defs (onTc (τ := τ) (main (F := Ideal))) ⟨m, fun _ => 0, ρ⟩ fun r => ∀ c : Dev nD,
      r.2.mem ((c.tc : Thread nD τ).loc main_v123) = v_mixR m c
      ∧ r.2.mem ((c.tc : Thread nD τ).loc main_v125) = v_woR m c
      ∧ r.2.mem ((c.tc : Thread nD τ).loc main_v127) = v_wqR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono ?_ (run_seq scopedRefs_none scopedSems_none defs main (fun _ => lines) main_eq (fun _ => lines_sub) m ρ)
  intro r hr c
  refine ⟨?_, ?_, ?_, ?_, ?_, ?_, ?_, ?_, ?_, ?_, ?_, ?_, ?_, ?_⟩
  · exact (hr c main_v123).trans ((congrFun (after_lines m c) _).trans ((keep15 main_v123 (by decide) _).trans (at_mixR m c)))
  · exact (hr c main_v125).trans ((congrFun (after_lines m c) _).trans (at_woR m c))
  · exact (hr c main_v127).trans ((congrFun (after_lines m c) _).trans (at_wqR m c))
  · exact (hr c main_arg0).trans ((congrFun (after_lines m c) _).trans ((keep15 main_arg0 (by decide) _).trans ((keep14 main_arg0 (by decide) _).trans ((keep13 main_arg0 (by decide) _).trans ((keep12 main_arg0 (by decide) _).trans ((keep11 main_arg0 (by decide) _).trans ((keep10 main_arg0 (by decide) _).trans ((keep9 main_arg0 (by decide) _).trans ((keep8 main_arg0 (by decide) _).trans ((keep7 main_arg0 (by decide) _).trans ((keep6 main_arg0 (by decide) _).trans ((keep5 main_arg0 (by decide) _).trans ((keep4 main_arg0 (by decide) _).trans ((keep3 main_arg0 (by decide) _).trans ((keep2 main_arg0 (by decide) _).trans ((keep1 main_arg0 (by decide) _).trans ((keep0 main_arg0 (by decide) _).trans rfl)))))))))))))))))
  · exact (hr c main_arg1).trans ((congrFun (after_lines m c) _).trans ((keep15 main_arg1 (by decide) _).trans ((keep14 main_arg1 (by decide) _).trans ((keep13 main_arg1 (by decide) _).trans ((keep12 main_arg1 (by decide) _).trans ((keep11 main_arg1 (by decide) _).trans ((keep10 main_arg1 (by decide) _).trans ((keep9 main_arg1 (by decide) _).trans ((keep8 main_arg1 (by decide) _).trans ((keep7 main_arg1 (by decide) _).trans ((keep6 main_arg1 (by decide) _).trans ((keep5 main_arg1 (by decide) _).trans ((keep4 main_arg1 (by decide) _).trans ((keep3 main_arg1 (by decide) _).trans ((keep2 main_arg1 (by decide) _).trans ((keep1 main_arg1 (by decide) _).trans ((keep0 main_arg1 (by decide) _).trans rfl)))))))))))))))))
  · exact (hr c main_arg2).trans ((congrFun (after_lines m c) _).trans ((keep15 main_arg2 (by decide) _).trans ((keep14 main_arg2 (by decide) _).trans ((keep13 main_arg2 (by decide) _).trans ((keep12 main_arg2 (by decide) _).trans ((keep11 main_arg2 (by decide) _).trans ((keep10 main_arg2 (by decide) _).trans ((keep9 main_arg2 (by decide) _).trans ((keep8 main_arg2 (by decide) _).trans ((keep7 main_arg2 (by decide) _).trans ((keep6 main_arg2 (by decide) _).trans ((keep5 main_arg2 (by decide) _).trans ((keep4 main_arg2 (by decide) _).trans ((keep3 main_arg2 (by decide) _).trans ((keep2 main_arg2 (by decide) _).trans ((keep1 main_arg2 (by decide) _).trans ((keep0 main_arg2 (by decide) _).trans rfl)))))))))))))))))
  · exact (hr c main_arg3).trans ((congrFun (after_lines m c) _).trans ((keep15 main_arg3 (by decide) _).trans ((keep14 main_arg3 (by decide) _).trans ((keep13 main_arg3 (by decide) _).trans ((keep12 main_arg3 (by decide) _).trans ((keep11 main_arg3 (by decide) _).trans ((keep10 main_arg3 (by decide) _).trans ((keep9 main_arg3 (by decide) _).trans ((keep8 main_arg3 (by decide) _).trans ((keep7 main_arg3 (by decide) _).trans ((keep6 main_arg3 (by decide) _).trans ((keep5 main_arg3 (by decide) _).trans ((keep4 main_arg3 (by decide) _).trans ((keep3 main_arg3 (by decide) _).trans ((keep2 main_arg3 (by decide) _).trans ((keep1 main_arg3 (by decide) _).trans ((keep0 main_arg3 (by decide) _).trans rfl)))))))))))))))))
  · exact (hr c main_arg4).trans ((congrFun (after_lines m c) _).trans ((keep15 main_arg4 (by decide) _).trans ((keep14 main_arg4 (by decide) _).trans ((keep13 main_arg4 (by decide) _).trans ((keep12 main_arg4 (by decide) _).trans ((keep11 main_arg4 (by decide) _).trans ((keep10 main_arg4 (by decide) _).trans ((keep9 main_arg4 (by decide) _).trans ((keep8 main_arg4 (by decide) _).trans ((keep7 main_arg4 (by decide) _).trans ((keep6 main_arg4 (by decide) _).trans ((keep5 main_arg4 (by decide) _).trans ((keep4 main_arg4 (by decide) _).trans ((keep3 main_arg4 (by decide) _).trans ((keep2 main_arg4 (by decide) _).trans ((keep1 main_arg4 (by decide) _).trans ((keep0 main_arg4 (by decide) _).trans rfl)))))))))))))))))
  · exact (hr c main_arg5).trans ((congrFun (after_lines m c) _).trans ((keep15 main_arg5 (by decide) _).trans ((keep14 main_arg5 (by decide) _).trans ((keep13 main_arg5 (by decide) _).trans ((keep12 main_arg5 (by decide) _).trans ((keep11 main_arg5 (by decide) _).trans ((keep10 main_arg5 (by decide) _).trans ((keep9 main_arg5 (by decide) _).trans ((keep8 main_arg5 (by decide) _).trans ((keep7 main_arg5 (by decide) _).trans ((keep6 main_arg5 (by decide) _).trans ((keep5 main_arg5 (by decide) _).trans ((keep4 main_arg5 (by decide) _).trans ((keep3 main_arg5 (by decide) _).trans ((keep2 main_arg5 (by decide) _).trans ((keep1 main_arg5 (by decide) _).trans ((keep0 main_arg5 (by decide) _).trans rfl)))))))))))))))))
  · exact (hr c main_arg6).trans ((congrFun (after_lines m c) _).trans ((keep15 main_arg6 (by decide) _).trans ((keep14 main_arg6 (by decide) _).trans ((keep13 main_arg6 (by decide) _).trans ((keep12 main_arg6 (by decide) _).trans ((keep11 main_arg6 (by decide) _).trans ((keep10 main_arg6 (by decide) _).trans ((keep9 main_arg6 (by decide) _).trans ((keep8 main_arg6 (by decide) _).trans ((keep7 main_arg6 (by decide) _).trans ((keep6 main_arg6 (by decide) _).trans ((keep5 main_arg6 (by decide) _).trans ((keep4 main_arg6 (by decide) _).trans ((keep3 main_arg6 (by decide) _).trans ((keep2 main_arg6 (by decide) _).trans ((keep1 main_arg6 (by decide) _).trans ((keep0 main_arg6 (by decide) _).trans rfl)))))))))))))))))
  · exact (hr c main_arg7).trans ((congrFun (after_lines m c) _).trans ((keep15 main_arg7 (by decide) _).trans ((keep14 main_arg7 (by decide) _).trans ((keep13 main_arg7 (by decide) _).trans ((keep12 main_arg7 (by decide) _).trans ((keep11 main_arg7 (by decide) _).trans ((keep10 main_arg7 (by decide) _).trans ((keep9 main_arg7 (by decide) _).trans ((keep8 main_arg7 (by decide) _).trans ((keep7 main_arg7 (by decide) _).trans ((keep6 main_arg7 (by decide) _).trans ((keep5 main_arg7 (by decide) _).trans ((keep4 main_arg7 (by decide) _).trans ((keep3 main_arg7 (by decide) _).trans ((keep2 main_arg7 (by decide) _).trans ((keep1 main_arg7 (by decide) _).trans ((keep0 main_arg7 (by decide) _).trans rfl)))))))))))))))))
  · exact (hr c main_arg8).trans ((congrFun (after_lines m c) _).trans ((keep15 main_arg8 (by decide) _).trans ((keep14 main_arg8 (by decide) _).trans ((keep13 main_arg8 (by decide) _).trans ((keep12 main_arg8 (by decide) _).trans ((keep11 main_arg8 (by decide) _).trans ((keep10 main_arg8 (by decide) _).trans ((keep9 main_arg8 (by decide) _).trans ((keep8 main_arg8 (by decide) _).trans ((keep7 main_arg8 (by decide) _).trans ((keep6 main_arg8 (by decide) _).trans ((keep5 main_arg8 (by decide) _).trans ((keep4 main_arg8 (by decide) _).trans ((keep3 main_arg8 (by decide) _).trans ((keep2 main_arg8 (by decide) _).trans ((keep1 main_arg8 (by decide) _).trans ((keep0 main_arg8 (by decide) _).trans rfl)))))))))))))))))
  · exact (hr c main_arg9).trans ((congrFun (after_lines m c) _).trans ((keep15 main_arg9 (by decide) _).trans ((keep14 main_arg9 (by decide) _).trans ((keep13 main_arg9 (by decide) _).trans ((keep12 main_arg9 (by decide) _).trans ((keep11 main_arg9 (by decide) _).trans ((keep10 main_arg9 (by decide) _).trans ((keep9 main_arg9 (by decide) _).trans ((keep8 main_arg9 (by decide) _).trans ((keep7 main_arg9 (by decide) _).trans ((keep6 main_arg9 (by decide) _).trans ((keep5 main_arg9 (by decide) _).trans ((keep4 main_arg9 (by decide) _).trans ((keep3 main_arg9 (by decide) _).trans ((keep2 main_arg9 (by decide) _).trans ((keep1 main_arg9 (by decide) _).trans ((keep0 main_arg9 (by decide) _).trans rfl)))))))))))))))))
  · exact (hr c main_arg10).trans ((congrFun (after_lines m c) _).trans ((keep15 main_arg10 (by decide) _).trans ((keep14 main_arg10 (by decide) _).trans ((keep13 main_arg10 (by decide) _).trans ((keep12 main_arg10 (by decide) _).trans ((keep11 main_arg10 (by decide) _).trans ((keep10 main_arg10 (by decide) _).trans ((keep9 main_arg10 (by decide) _).trans ((keep8 main_arg10 (by decide) _).trans ((keep7 main_arg10 (by decide) _).trans ((keep6 main_arg10 (by decide) _).trans ((keep5 main_arg10 (by decide) _).trans ((keep4 main_arg10 (by decide) _).trans ((keep3 main_arg10 (by decide) _).trans ((keep2 main_arg10 (by decide) _).trans ((keep1 main_arg10 (by decide) _).trans ((keep0 main_arg10 (by decide) _).trans rfl)))))))))))))))))

end Cert.ReferenceIdeal.Own
end
-- ==== Proof.Own.MixScalar.lean ====
module
public import Idealize.ShloMosaic.Lib.Pointwise
public import Idealize.ShloMosaic.Lib.IdealHost
@[expose] public section
set_option maxRecDepth 16384
noncomputable section
namespace Cert.MixScalar
open Idealize.ShloMosaic

/-- The value that masks a score out. -/
abbrev low : EReal := Ideal.ofBits FTy.f32 4286578688#32
theorem low_eq : low = ⊥ := by simp [low, Ideal.ofBits, Ideal.ieee]

/-- The mean of 128 numbers. -/
def avg (f : Fin 128 → EReal) : EReal := Ideal.div (∑ x, f x) (Ideal.ofBits FTy.f32 1124073472#32)
/-- The mean square distance from the mean. -/
def spread (f : Fin 128 → EReal) : EReal := avg fun x => (f x - avg f) * (f x - avg f)
/-- One normalised entry, scaled and shifted. -/
def unitAt (f : Fin 128 → EReal) (g s : EReal) (d : Fin 128) : EReal :=
  (f d - avg f) * Ideal.rsqrt (spread f + Ideal.ofBits FTy.f32 897988541#32) * g + s

/-- The mask bit of row `q`, column `k` in block `n`. -/
def bandAt (n q k : Nat) : BitVec 1 :=
  IntOp.andi
      (IntOp.andi (IntOp.cmpi CmpIPredicate.sge (BitVec.ofNat 32 k) (IntOp.addi (BitVec.ofNat 32 q) 1#32))
        (IntOp.cmpi CmpIPredicate.sle (BitVec.ofNat 32 k) (IntOp.addi (BitVec.ofNat 32 q) 128#32)))
      (IntOp.ori (IntOp.cmpi CmpIPredicate.sgt (BitVec.ofNat 32 n) 0#32)
        (IntOp.cmpi CmpIPredicate.sge (BitVec.ofNat 32 k) 128#32))

theorem bandAt_first (q k : Nat) (hk : k < 128) : bandAt 0 q k = 0#1 := by
  have h : ∀ k : Fin 128, IntOp.ori (IntOp.cmpi CmpIPredicate.sgt (BitVec.ofNat 32 0) 0#32)
      (IntOp.cmpi CmpIPredicate.sge (BitVec.ofNat 32 k.val) 128#32) = 0#1 := by decide +kernel
  have h2 : ∀ x : BitVec 1, IntOp.andi x 0#1 = 0#1 := by decide
  unfold bandAt
  rw [h ⟨k, hk⟩, h2]

/-- The largest of the scores and the sink. -/
def top (sc : Fin 256 → EReal) (s : EReal) : EReal := max ((Finset.univ : Finset (Fin 256)).fold max low sc) s
def wt (sc : Fin 256 → EReal) (s : EReal) (k : Fin 256) : EReal := Ideal.exp (sc k - top sc s)
def den (sc : Fin 256 → EReal) (s : EReal) : EReal := ∑ k, wt sc s k + Ideal.exp (s - top sc s)
/-- One entry of the weighted mean of the values. -/
def att (sc : Fin 256 → EReal) (s : EReal) (v : Fin 256 → EReal) : EReal := ∑ k, v k * Ideal.div (wt sc s k) (den sc s)

theorem exp_nonneg (x : EReal) : 0 ≤ Ideal.exp x := by
  induction x with
  | bot => exact le_refl _
  | top => exact le_top
  | coe r => exact EReal.coe_nonneg.2 (Real.exp_pos r).le

theorem wt_zero_of_den (sc : Fin 256 → EReal) (s : EReal) (h : den sc s = 0) (k : Fin 256) : wt sc s k = 0 := by
  have h0 : 0 ≤ ∑ k, wt sc s k := Finset.sum_nonneg fun k _ => exp_nonneg _
  have h1 : ∑ k, wt sc s k ≤ 0 := by
    rw [← h]
    exact le_add_of_nonneg_right (exp_nonneg _)
  exact (Finset.sum_eq_zero_iff_of_nonneg (fun k _ => exp_nonneg _)).1 (le_antisymm h1 h0) k (Finset.mem_univ k)

theorem mul_bot_cases (v : EReal) : v * ⊥ = 0 ∨ v * ⊥ = ⊥ ∨ v * ⊥ = ⊤ := by
  rcases lt_trichotomy v 0 with h | h | h
  · exact .inr (.inr (EReal.mul_bot_of_neg h))
  · exact .inl (by rw [h, zero_mul])
  · exact .inr (.inl (EReal.mul_bot_of_pos h))

/-- A sum of 128 products with the bottom value is zero or infinite, so adding it to itself changes nothing. -/
theorem double_bot (v : Fin 128 → EReal) : ∑ k, v k * ⊥ + ∑ k, v k * ⊥ = ∑ k, v k * ⊥ := by
  have h : (∑ k, v k * ⊥ = 0) ∨ (∑ k, v k * ⊥ = ⊥) ∨ (∑ k, v k * ⊥ = ⊤) := by
    refine Finset.sum_induction (fun k => v k * ⊥) (fun x => x = 0 ∨ x = ⊥ ∨ x = ⊤) ?_ (.inl rfl) (fun k _ => mul_bot_cases _)
    rintro a b (rfl | rfl | rfl) (rfl | rfl | rfl) <;> simp
  rcases h with h | h | h <;> rw [h] <;> simp

/-- In the first block the masked half counts for nothing, whatever values stand there. -/
theorem att_first (sc : Fin 256 → EReal) (s : EReal) (v w : Fin 256 → EReal)
    (hsc : ∀ k : Fin 128, sc ⟨k.val, by omega⟩ = ⊥)
    (hv : ∀ k : Fin 128, v ⟨k.val, by omega⟩ = 0)
    (hw : ∀ k : Fin 128, w ⟨k.val, by omega⟩ = v ⟨128 + k.val, by omega⟩)
    (he : ∀ k : Fin 128, w ⟨128 + k.val, by omega⟩ = v ⟨128 + k.val, by omega⟩) :
    att sc s w = att sc s v := by
  unfold att
  rw [Fin.sum_univ_two_halves 128 128 rfl, Fin.sum_univ_two_halves 128 128 rfl (fun k => v k * _)]
  simp only [hv, hw, he, zero_mul, Finset.sum_const_zero, zero_add]
  have hp : ∀ k : Fin 128, wt sc s ⟨k.val, by omega⟩ = 0 := by
    intro k
    unfold wt
    rw [hsc, EReal.bot_sub]
    rfl
  by_cases hd : den sc s = 0
  · have hq : ∀ k, Ideal.div (wt sc s k) (den sc s) = ⊥ := by
      intro k
      rw [wt_zero_of_den sc s hd k, hd]
      simp [Ideal.div]
    simp only [hq]
    exact double_bot _
  · have hq : ∀ k : Fin 128, Ideal.div (wt sc s ⟨k.val, by omega⟩) (den sc s) = 0 := by
      intro k
      rw [hp]
      exact Ideal.zero_div hd
    simp only [hq, mul_zero, Finset.sum_const_zero, zero_add]

end Cert.MixScalar
end
-- ==== Proof.Own.MixRefAt.lean ====
module
public import proofs.«01_k».proof.Proof.Own.MixRefRun
public import proofs.«01_k».proof.Proof.Own.MixScalar
@[expose] public section
set_option maxRecDepth 16384
noncomputable section
namespace Cert.ReferenceIdeal.Own
open Cert.ReferenceIdeal Cert.ReferenceIdeal.Gen Idealize.ShloMosaic Idealize.ShloMosaic.TcCoe Idealize.SL.Sem Cert.MixScalar

section
variable {n0 n1 n2 n3 n4 n5 : Nat}

/-- Dropping the last of six coordinates gives the first five. -/
theorem dropLast_iff (h : (⟨6, ![n0, n1, n2, n3, n4, n5]⟩ : Shape).ReducesTo [5] ⟨5, ![n0, n1, n2, n3, n4]⟩)
    (a : Fin n0) (b : Fin n1) (c : Fin n2) (d : Fin n3) (e : Fin n4) (i : (⟨6, ![n0, n1, n2, n3, n4, n5]⟩ : Shape).Idx) :
    h.drop i = ix5 a b c d e ↔ ∃ k : Fin n5, ix6 a b c d e k = i := by
  refine ⟨fun hd => ⟨i 5, ?_⟩, ?_⟩
  · funext x
    refine Fin.ext ?_
    match x with
    | ⟨0, _⟩ => exact congrArg Fin.val (congrFun hd 0).symm
    | ⟨1, _⟩ => exact congrArg Fin.val (congrFun hd 1).symm
    | ⟨2, _⟩ => exact congrArg Fin.val (congrFun hd 2).symm
    | ⟨3, _⟩ => exact congrArg Fin.val (congrFun hd 3).symm
    | ⟨4, _⟩ => exact congrArg Fin.val (congrFun hd 4).symm
    | ⟨5, _⟩ => rfl
  · rintro ⟨k, rfl⟩
    funext x
    refine Fin.ext ?_
    match x with
    | ⟨0, _⟩ => rfl
    | ⟨1, _⟩ => rfl
    | ⟨2, _⟩ => rfl
    | ⟨3, _⟩ => rfl
    | ⟨4, _⟩ => rfl

theorem sumLast (h : (⟨6, ![n0, n1, n2, n3, n4, n5]⟩ : Shape).ReducesTo [5] ⟨5, ![n0, n1, n2, n3, n4]⟩)
    (v : (⟨6, ![n0, n1, n2, n3, n4, n5]⟩ : Shape).Idx → EReal) (init : EReal)
    (a : Fin n0) (b : Fin n1) (c : Fin n2) (d : Fin n3) (e : Fin n4) :
    Ideal.hostReduceAdd h v init (ix5 a b c d e) = init + ∑ k : Fin n5, v (ix6 a b c d e k) := by
  unfold Ideal.hostReduceAdd
  rw [Finset.sum_filter_eq_sum_of_fiber _ (fun k : Fin n5 => ix6 a b c d e k) (fun _ _ q => congrFun q 5) (dropLast_iff h a b c d e) v]

theorem maxLast {u : Shape} (h : (⟨6, ![n0, n1, n2, n3, n4, n5]⟩ : Shape).ReducesTo [5] ⟨5, ![n0, n1, n2, n3, n4]⟩)
    (v : (⟨6, ![n0, n1, n2, n3, n4, n5]⟩ : Shape).Idx → EReal) (init : u.Idx → EReal) (hu : 0 < u.numel)
    (a : Fin n0) (b : Fin n1) (c : Fin n2) (d : Fin n3) (e : Fin n4) :
    Host.reduce (max : EReal → EReal → EReal) v init h hu (ix5 a b c d e) = (Finset.univ : Finset (Fin n5)).fold max (init (Shape.Idx.first hu)) fun k => v (ix6 a b c d e k) := by
  rw [Host.reduce_eq_fold]
  exact Finset.fold_filter_eq_fold_of_fiber max _ (fun k : Fin n5 => ix6 a b c d e k) (fun _ _ q => congrFun q 5) (dropLast_iff h a b c d e) _ v
end

theorem castQ_at (a : FVec Ideal S8192x1024 .bf16) (b : Fin 4) (s : Fin 2048) (d : Fin 1024) :
    castQ a (ix3 b s d) = a (ix2 ⟨b.val * 2048 + s.val, by omega⟩ d) := by
  pointwise [castQ]
theorem castKV_at (a : FVec Ideal S8192x256 .bf16) (b : Fin 4) (s : Fin 2048) (d : Fin 256) :
    castKV a (ix3 b s d) = a (ix2 ⟨b.val * 2048 + s.val, by omega⟩ d) := by
  pointwise [castKV]
theorem gainR_at (a : FVec Ideal S1x8x128 .f32) (g : Fin 8) (d : Fin 128) : gainR a (ix2 g d) = a (ix3 0 g d) := by
  pointwise [gainR]
theorem shiftR_at (a : FVec Ideal S1x8x128 .f32) (g : Fin 8) (d : Fin 128) : shiftR a (ix2 g d) = a (ix3 0 g d) := by
  pointwise [shiftR]
theorem biasR_at (a : FVec Ideal S1x8x128 .f32) (g : Fin 8) (d : Fin 128) : biasR a (ix2 g d) = a (ix3 0 g d) := by
  pointwise [biasR]
theorem spatR_at (a : FVec Ideal S1x8x128x128 .f32) (g : Fin 8) (d e : Fin 128) : spatR a (ix3 g d e) = a (ix4 0 g d e) := by
  pointwise [spatR]
theorem gateU_at (a : FVec Ideal S8192x1024 .bf16) (b : Fin 4) (n : Fin 16) (t : Fin 128) (g : Fin 8) (d : Fin 128) :
    gateU a (ix5 b n t g d) = a (ix2 ⟨(b.val * 16 + n.val) * 128 + t.val, by omega⟩ ⟨g.val * 128 + d.val, by omega⟩) := by
  pointwise [gateU]
  exact congrArg a (by idx_ext <;> simp only <;> omega)
theorem gateV_at (a : FVec Ideal S8192x1024 .bf16) (b : Fin 4) (n : Fin 16) (t : Fin 128) (g : Fin 8) (d : Fin 128) :
    gateV a (ix5 b n t g d) = a (ix2 ⟨(b.val * 16 + n.val) * 128 + t.val, by omega⟩ ⟨g.val * 128 + d.val, by omega⟩) := by
  pointwise [gateV]
  exact congrArg a (by idx_ext <;> simp only <;> omega)

theorem meanR_at (a : FVec Ideal S4x16x128x8x128 .f32) (b : Fin 4) (n : Fin 16) (t : Fin 128) (g : Fin 8) :
    meanR a (ix5 b n t g 0) = avg fun x => a (ix5 b n t g x) := by
  pointwise [meanR, avg]
theorem varR_at (a : FVec Ideal S4x16x128x8x128 .f32) (b : Fin 4) (n : Fin 16) (t : Fin 128) (g : Fin 8) :
    varR a (meanR a) (ix5 b n t g 0) = spread fun x => a (ix5 b n t g x) := by
  unfold spread
  rw [← meanR_at]
  generalize meanR a = M
  pointwise [varR, avg]
theorem normR_at (a : FVec Ideal S4x16x128x8x128 .f32) (G B : FVec Ideal S8x128 .f32) (b : Fin 4) (n : Fin 16) (t : Fin 128) (g : Fin 8) (d : Fin 128) :
    normR a (meanR a) (varR a (meanR a)) G B (ix5 b n t g d) = unitAt (fun x => a (ix5 b n t g x)) (G (ix2 g d)) (B (ix2 g d)) d := by
  unfold unitAt
  rw [← varR_at, ← meanR_at]
  generalize varR a (meanR a) = V
  generalize meanR a = M
  pointwise [normR]
theorem lowR_at (W : FVec Ideal S8x128x128 .f32) (g : Fin 8) (t s : Fin 128) :
    lowR W (ix3 g t s) = Scalar.select (IntOp.cmpi CmpIPredicate.sge (BitVec.ofNat 32 t.val) (BitVec.ofNat 32 s.val)) (W (ix3 g t s)) 0 := by
  have e1 : ∀ c : BitVec 1, Scalar.select c 1#1 0#1 = c := by decide
  have e2 : ∀ x : BitVec 32, IntOp.addi x 0#32 = x := fun x => BitVec.add_zero x
  pointwise [lowR, e1, e2]
theorem gatedR_at (U N : FVec Ideal S4x16x128x8x128 .f32) (L : FVec Ideal S8x128x128 .f32) (B : FVec Ideal S8x128 .f32) (b : Fin 4) (i : Fin 2048) (j : Fin 1024)
    (n : Fin 16) (t : Fin 128) (g : Fin 8) (d : Fin 128) (hi : i.val = n.val * 128 + t.val) (hj : j.val = g.val * 128 + d.val) :
    gatedR U N L B (ix3 b i j) = U (ix5 b n t g d) * (∑ s : Fin 128, N (ix5 b n s g d) * L (ix3 g t s) + B (ix2 g t)) := by
  have e1 : ∀ h, (⟨i.val / 128, h⟩ : Fin 16) = n := fun h => Fin.ext (by simp only; omega)
  have e2 : ∀ h, (⟨i.val % 128, h⟩ : Fin 128) = t := fun h => Fin.ext (by simp only; omega)
  have e3 : ∀ h, (⟨j.val / 128, h⟩ : Fin 8) = g := fun h => Fin.ext (by simp only; omega)
  have e4 : ∀ h, (⟨j.val % 128, h⟩ : Fin 128) = d := fun h => Fin.ext (by simp only; omega)
  pointwise [gatedR]
  simp only [e1, e2, e3, e4]
theorem sinkB_at (a : FVec Ideal S1x16 .f32) (j : Fin 2) (g : Fin 8) :
    sinkB (sinkR a) (ix6 0 0 j g 0 0) = a (ix2 0 ⟨j.val * 8 + g.val, by omega⟩) := by
  pointwise [sinkB, sinkR]
theorem qryR_at (a : FVec Ideal S4x2048x1024 .f32) (b : Fin 4) (n : Fin 16) (t : Fin 128) (j : Fin 2) (g : Fin 8) (e : Fin 64) :
    qryR a (ix6 b n t j g e) = a (ix3 b ⟨n.val * 128 + t.val, by omega⟩ ⟨(j.val * 8 + g.val) * 64 + e.val, by omega⟩) := by
  pointwise [qryR]
  exact congrArg a (by idx_ext <;> simp only <;> omega)
/-- Row `k` of the two blocks a query block sees: the block before (nothing before the first), then its own. -/
def seen (a : Fin 2048 → EReal) (n : Fin 16) (k : Fin 256) : EReal :=
  if h : k.val < 128 then (if h1 : 1 ≤ n.val then a ⟨(n.val - 1) * 128 + k.val, by omega⟩ else 0) else a ⟨n.val * 128 + (k.val - 128), by omega⟩
theorem keysR_at (a : FVec Ideal S4x2048x256 .f32) (b : Fin 4) (n : Fin 16) (k : Fin 256) (j : Fin 2) (e : Fin 64) :
    keysR a (ix5 b n k j e) = seen (fun s => a (ix3 b s ⟨j.val * 64 + e.val, by omega⟩)) n k := by
  have z : FloatOps.sitofp (F := Ideal) FTy.f32 (0#32) = 0 := by
    show ((((0#32 : BitVec 32).toInt : ℤ) : ℝ) : EReal) = 0
    simp
  pointwise [keysR, seen, z]
  by_cases h : k.val < 128 <;> by_cases h1 : 1 ≤ n.val
  all_goals (have h2 : n.val - 1 < 15 := by omega)
  all_goals simp only [h, h1, h2, dite_true, dite_false, and_true, and_self, false_and]
theorem valsR_at (a : FVec Ideal S4x2048x256 .f32) (b : Fin 4) (n : Fin 16) (k : Fin 256) (j : Fin 2) (e : Fin 64) :
    valsR a (ix5 b n k j e) = seen (fun s => a (ix3 b s ⟨128 + (j.val * 64 + e.val), by omega⟩)) n k := by
  have z : FloatOps.sitofp (F := Ideal) FTy.f32 (0#32) = 0 := by
    show ((((0#32 : BitVec 32).toInt : ℤ) : ℝ) : EReal) = 0
    simp
  pointwise [valsR, seen, z]
  by_cases h : k.val < 128 <;> by_cases h1 : 1 ≤ n.val
  all_goals (have h2 : n.val - 1 < 15 := by omega)
  all_goals simp only [h, h1, h2, dite_true, dite_false, and_true, and_self, false_and]
theorem dotsR_at (K : FVec Ideal S4x16x256x2x64 .f32) (Q : FVec Ideal S4x16x128x2x8x64 .f32) (b : Fin 4) (n : Fin 16) (j : Fin 2) (g : Fin 8) (q : Fin 128) (k : Fin 256) :
    dotsR K Q (ix6 b n j g q k) = (∑ x : Fin 64, K (ix5 b n k j x) * Q (ix6 b n q j g x)) * Ideal.ofBits FTy.f32 1040187392#32 := by
  pointwise [dotsR]
theorem bandR_at (n : Fin 16) (q : Fin 128) (k : Fin 256) : bandR (ix3 n q k) = bandAt n.val q.val k.val := by
  pointwise [bandR, bandAt]
theorem scoreR_at (M : IVec S16x128x256 1) (D : FVec Ideal S4x16x2x8x128x256 .f32) (b : Fin 4) (n : Fin 16) (j : Fin 2) (g : Fin 8) (q : Fin 128) (k : Fin 256) :
    scoreR M D (ix6 b n j g q k) = Scalar.select (M (ix3 n q k)) (D (ix6 b n j g q k)) (Ideal.ofBits FTy.f32 4286578688#32) := by
  pointwise [scoreR]
theorem peakR_at (D : FVec Ideal S4x16x2x8x128x256 .f32) (b : Fin 4) (n : Fin 16) (j : Fin 2) (g : Fin 8) (q : Fin 128) :
    peakR D (ix5 b n j g q) = (Finset.univ : Finset (Fin 256)).fold max (Ideal.ofBits FTy.f32 4286578688#32) fun k => D (ix6 b n j g q k) := by
  unfold peakR
  rw [Ideal.maximumf_eq_max]
  exact maxLast _ D _ _ b n j g q
theorem topR_at (P : FVec Ideal S4x16x2x8x128 .f32) (S : FVec Ideal S1x1x2x8x1x1 .f32) (b : Fin 4) (n : Fin 16) (j : Fin 2) (g : Fin 8) (q : Fin 128) :
    topR P S (ix6 b n j g q 0) = max (P (ix5 b n j g q)) (S (ix6 0 0 j g 0 0)) := by
  pointwise [topR]
theorem expR_at (D : FVec Ideal S4x16x2x8x128x256 .f32) (S : FVec Ideal S4x16x2x8x128x1 .f32) (b : Fin 4) (n : Fin 16) (j : Fin 2) (g : Fin 8) (q : Fin 128) (k : Fin 256) :
    expR D S (ix6 b n j g q k) = Ideal.exp (D (ix6 b n j g q k) - S (ix6 b n j g q 0)) := by
  pointwise [expR]
theorem denR_at (D : FVec Ideal S4x16x2x8x128x256 .f32) (S : FVec Ideal S1x1x2x8x1x1 .f32) (T : FVec Ideal S4x16x2x8x128x1 .f32) (b : Fin 4) (n : Fin 16) (j : Fin 2) (g : Fin 8) (q : Fin 128) :
    denR D S T (ix6 b n j g q 0) = ∑ k : Fin 256, D (ix6 b n j g q k) + Ideal.exp (S (ix6 0 0 j g 0 0) - T (ix6 b n j g q 0)) := by
  have e := sumLast reducesTo_S4x16x2x8x128x256_S4x16x2x8x128_d5 D 0 b n j g q
  rw [zero_add] at e
  rw [← e]
  pointwise [denR]
theorem mixR_left (Y : FVec Ideal S4x2048x1024 .f32) (V : FVec Ideal S4x16x256x2x64 .f32) (P : FVec Ideal S4x16x2x8x128x256 .f32) (D : FVec Ideal S4x16x2x8x128x1 .f32) (i : Fin 8192) (j : Fin 2048)
    (b : Fin 4) (s : Fin 2048) (x : Fin 1024) (hi : i.val = b.val * 2048 + s.val) (hj : j.val = x.val) :
    mixR Y V P D (ix2 i j) = Y (ix3 b s x) := by
  have e1 : ∀ h, (⟨i.val / 2048, h⟩ : Fin 4) = b := fun h => Fin.ext (by simp only; omega)
  have e2 : ∀ h, (⟨i.val % 2048, h⟩ : Fin 2048) = s := fun h => Fin.ext (by simp only; omega)
  have e3 : ∀ h, (⟨j.val, h⟩ : Fin 1024) = x := fun h => Fin.ext (by simp only; omega)
  pointwise [mixR]
  rw [dif_pos (by omega : j.val < 1024)]
  simp only [e1, e2, e3]
theorem mixR_right (Y : FVec Ideal S4x2048x1024 .f32) (V : FVec Ideal S4x16x256x2x64 .f32) (P : FVec Ideal S4x16x2x8x128x256 .f32) (D : FVec Ideal S4x16x2x8x128x1 .f32) (i : Fin 8192) (j : Fin 2048)
    (b : Fin 4) (n : Fin 16) (q : Fin 128) (h : Fin 2) (g : Fin 8) (x : Fin 64) (hi : i.val = (b.val * 16 + n.val) * 128 + q.val) (hj : j.val = 1024 + (h.val * 8 + g.val) * 64 + x.val) :
    mixR Y V P D (ix2 i j) = ∑ k : Fin 256, V (ix5 b n k h x) * Ideal.div (P (ix6 b n h g q k)) (D (ix6 b n h g q 0)) := by
  have e1 : ∀ h, (⟨i.val / 2048, h⟩ : Fin 4) = b := fun h => Fin.ext (by simp only; omega)
  have e2 : ∀ h, (⟨i.val % 2048 / 128, h⟩ : Fin 16) = n := fun h => Fin.ext (by simp only; omega)
  have e3 : ∀ h, (⟨i.val % 2048 % 128, h⟩ : Fin 128) = q := fun h => Fin.ext (by simp only; omega)
  have e4 : ∀ p, (⟨(j.val - 1024) / 512, p⟩ : Fin 2) = h := fun p => Fin.ext (by simp only; omega)
  have e5 : ∀ h, (⟨(j.val - 1024) % 64, h⟩ : Fin 64) = x := fun h => Fin.ext (by simp only; omega)
  have e6 : ∀ h, (⟨(j.val - 1024) / 64 % 8, h⟩ : Fin 8) = g := fun h => Fin.ext (by simp only; omega)
  pointwise [mixR]
  rw [dif_neg (by omega : ¬ j.val < 1024)]
  simp only [e1, e2, e3, e4, e5, e6]

theorem left_of (A0 A1 : FVec Ideal S8192x1024 .bf16) (A4 A5 : FVec Ideal S1x8x128 .f32) (A6 : FVec Ideal S1x8x128x128 .f32) (A7 : FVec Ideal S1x8x128 .f32)
    (V : FVec Ideal S4x16x256x2x64 .f32) (P : FVec Ideal S4x16x2x8x128x256 .f32) (D : FVec Ideal S4x16x2x8x128x1 .f32) (i : Fin 8192) (j : Fin 2048)
    (b : Fin 4) (n : Fin 16) (t : Fin 128) (g : Fin 8) (d : Fin 128) (hi : i.val = (b.val * 16 + n.val) * 128 + t.val) (hj : j.val = g.val * 128 + d.val) :
    mixR (gatedR (gateU A0) (normR (gateV A1) (meanR (gateV A1)) (varR (gateV A1) (meanR (gateV A1))) (gainR A4) (shiftR A5)) (lowR (spatR A6)) (biasR A7)) V P D (ix2 i j)
      = A0 (ix2 ⟨(b.val * 16 + n.val) * 128 + t.val, by omega⟩ ⟨g.val * 128 + d.val, by omega⟩)
        * (∑ s : Fin 128, unitAt (fun x => A1 (ix2 ⟨(b.val * 16 + n.val) * 128 + s.val, by omega⟩ ⟨g.val * 128 + x.val, by omega⟩)) (A4 (ix3 0 g d)) (A5 (ix3 0 g d)) d
            * Scalar.select (IntOp.cmpi CmpIPredicate.sge (BitVec.ofNat 32 t.val) (BitVec.ofNat 32 s.val)) (A6 (ix4 0 g t s)) 0
          + A7 (ix3 0 g t)) := by
  rw [mixR_left _ _ _ _ i j b ⟨n.val * 128 + t.val, by omega⟩ ⟨g.val * 128 + d.val, by omega⟩ (by simp only; omega) hj]
  rw [gatedR_at _ _ _ _ b _ _ n t g d rfl rfl]
  simp only [gateU_at, normR_at, gateV_at, gainR_at, shiftR_at, lowR_at, spatR_at, biasR_at]

/-- The masked, scaled score of one query entry with key row `k`. -/
def scoreAt (A2 : FVec Ideal S8192x1024 .bf16) (A3 : FVec Ideal S8192x256 .bf16) (b : Fin 4) (n : Fin 16) (q : Fin 128) (h : Fin 2) (g : Fin 8) (k : Fin 256) : EReal :=
  Scalar.select (bandAt n.val q.val k.val)
    ((∑ x : Fin 64, seen (fun s => A3 (ix2 ⟨b.val * 2048 + s.val, by omega⟩ ⟨h.val * 64 + x.val, by omega⟩)) n k
        * A2 (ix2 ⟨b.val * 2048 + (n.val * 128 + q.val), by omega⟩ ⟨(h.val * 8 + g.val) * 64 + x.val, by omega⟩)) * Ideal.ofBits FTy.f32 1040187392#32) low

theorem right_of (Y : FVec Ideal S4x2048x1024 .f32) (A2 : FVec Ideal S8192x1024 .bf16) (A3 : FVec Ideal S8192x256 .bf16) (A8 : FVec Ideal S1x16 .f32) (i : Fin 8192) (j : Fin 2048)
    (b : Fin 4) (n : Fin 16) (q : Fin 128) (h : Fin 2) (g : Fin 8) (x : Fin 64) (hi : i.val = (b.val * 16 + n.val) * 128 + q.val) (hj : j.val = 1024 + (h.val * 8 + g.val) * 64 + x.val)
    (Sc : FVec Ideal S4x16x2x8x128x256 .f32) (hS : Sc = scoreR bandR (dotsR (keysR (castKV A3)) (qryR (castQ A2))))
    (T : FVec Ideal S4x16x2x8x128x1 .f32) (hT : T = topR (peakR Sc) (sinkB (sinkR A8))) :
    mixR Y (valsR (castKV A3)) (expR Sc T) (denR (expR Sc T) (sinkB (sinkR A8)) T) (ix2 i j)
      = att (scoreAt A2 A3 b n q h g) (A8 (ix2 0 ⟨h.val * 8 + g.val, by omega⟩)) (fun k => seen (fun s => A3 (ix2 ⟨b.val * 2048 + s.val, by omega⟩ ⟨128 + (h.val * 64 + x.val), by omega⟩)) n k) := by
  have e : ∀ k, Sc (ix6 b n h g q k) = scoreAt A2 A3 b n q h g k := by
    intro k
    subst hS
    unfold scoreAt
    simp only [scoreR_at, bandR_at, dotsR_at, keysR_at, qryR_at, castKV_at, castQ_at]
  have eT : T (ix6 b n h g q 0) = top (scoreAt A2 A3 b n q h g) (A8 (ix2 0 ⟨h.val * 8 + g.val, by omega⟩)) := by
    subst hT
    rw [topR_at, peakR_at, sinkB_at]
    simp only [e]
    rfl
  rw [mixR_right _ _ _ _ i j b n q h g x hi hj]
  unfold att den wt
  rw [denR_at, eT]
  simp only [expR_at, e, eT, sinkB_at, valsR_at, castKV_at]

theorem woR_at (A : FVec Ideal S1x2048x2048 .f32) (i j : Fin 2048) : woR A (ix2 i j) = A (ix3 0 i j) := by
  pointwise [woR]
theorem wqR_at (A : FVec Ideal S1x2048x2048 .f32) (i j : Fin 2048) : wqR A (ix2 i j) = A (ix3 0 i j) := by
  pointwise [wqR]

end Cert.ReferenceIdeal.Own
end
-- ==== Proof.Own.MixPay.lean ====
module

public import proofs.«01_k».proof.Defs
public import proofs.«01_k».proof.Proof.Gen.KernelIdeal.Skeleton
public import proofs.«01_k».proof.Proof.Own.MixRefAt
public import Idealize.ShloMosaic.Lib.Claim
public import Idealize.ShloMosaic.Lib.Pointwise

@[expose] public section

set_option maxRecDepth 16384

noncomputable section

namespace Cert.KernelIdeal.Own

open Cert.KernelIdeal Cert.KernelIdeal.Gen Idealize.ShloMosaic Idealize.ShloMosaic.TcCoe Idealize.SL.Sem Cert.MixScalar
open Cert.ReferenceIdeal.Own (seen scoreAt)

/-! ## One gating group -/

/-- The product a group stores, from its gate values, gain, shift, mixing weights, bias and partner. -/
def groupK (v : Vec Ideal S128x128 .bf16) (g b : Vec Ideal S1x128 .f32) (w : Vec Ideal S1x128x128 .f32) (B : Vec Ideal S128x128 .f32) (u : Vec Ideal S128x128 .bf16) : FVec Ideal S128x128 .bf16 :=
  k0_pay7 (F := Ideal) k0_pay4 (k0_pay5 v g) (k0_pay6 b) w B u

theorem flip_le (s t : BitVec 32) : IntOp.cmpi .sle s t = IntOp.cmpi .sge t s := rfl

theorem pay5_at (v : FVec Ideal S128x128 .bf16) (g : FVec Ideal S1x128 .f32) (s : Fin 128) (d : Fin 128) :
    k0_pay5 (F := Ideal) v g (ix2 s d) = (v (ix2 s d) - avg fun x => v (ix2 s x)) * Ideal.rsqrt (spread (fun x => v (ix2 s x)) + Ideal.ofBits FTy.f32 897988541#32) * g (ix2 0 d) := by
  unfold spread avg
  pointwise [k0_pay5]
  try simp only [zero_add]

theorem pay6_at (b : FVec Ideal S1x128 .f32) (d : Fin 128) : k0_pay6 (F := Ideal) b (ix2 0 d) = b (ix2 0 d) := by
  pointwise [k0_pay6]

theorem pay4_at (r s : Fin 128) : k0_pay4 (ix2 r s) = IntOp.cmpi .sge (BitVec.ofNat 32 r.val) (BitVec.ofNat 32 s.val) := by
  rw [← flip_le]
  pointwise [k0_pay4]

theorem groupK_at (v : FVec Ideal S128x128 .bf16) (g b : FVec Ideal S1x128 .f32) (w : FVec Ideal S1x128x128 .f32) (B : FVec Ideal S128x128 .f32) (u : FVec Ideal S128x128 .bf16) (r d : Fin 128) :
    groupK v g b w B u (ix2 r d) = u (ix2 r d) * (∑ s : Fin 128, unitAt (fun x => v (ix2 s x)) (g (ix2 0 d)) (b (ix2 0 d)) d * Scalar.select (IntOp.cmpi .sge (BitVec.ofNat 32 r.val) (BitVec.ofNat 32 s.val)) (w (ix3 0 r s)) 0 + B (ix2 r d)) := by
  unfold unitAt
  pointwise [groupK, k0_pay7, pay5_at, pay6_at, pay4_at]
  simp only [mul_comm (w _)]

/-! ## One attention head -/

/-- What one head of block `n` stores, from the keys of the block before and of its own, the values likewise, the queries and the sink. -/
def headK (n : Nat) (A B C D : Vec Ideal S128x64 .bf16) (q : Vec Ideal S128x64 .bf16) (s : Elt Ideal .f32) : FVec Ideal S128x64 .bf16 :=
  k0_pay39 (F := Ideal) (k0_pay32 (BitVec.ofNat 32 n)) (k0_pay33 A B) (k0_pay33 C D) q s

theorem pay33_at (a b : FVec Ideal S128x64 .bf16) (k : Fin 256) (d : Fin 64) :
    k0_pay33 (F := Ideal) a b (ix2 k d) = if h : k.val < 128 then a (ix2 ⟨k.val, h⟩ d) else b (ix2 ⟨k.val - 128, by omega⟩ d) := by
  pointwise [k0_pay33]

theorem pay32_at (n : Nat) (r : Fin 128) (k : Fin 256) : k0_pay32 (BitVec.ofNat 32 n) (ix2 r k) = bandAt n r.val k.val := by
  unfold bandAt
  pointwise [k0_pay32]
  rfl

theorem pay39_at (M : IVec S128x256 1) (kk vv : FVec Ideal S256x64 .bf16) (q : FVec Ideal S128x64 .bf16) (s : EReal) (r : Fin 128) (x : Fin 64) :
    k0_pay39 (F := Ideal) M kk vv q s (ix2 r x) = att (fun k => Scalar.select (M (ix2 r k)) ((∑ d : Fin 64, kk (ix2 k d) * q (ix2 r d)) * Ideal.ofBits .f32 1040187392) low) s (fun k => vv (ix2 k x)) := by
  unfold att den wt top
  pointwise [k0_pay39]
  try simp only [zero_add]
  have e : ∀ k : Fin 256, (∑ d : Fin 64, kk (ix2 k d) * q (ix2 r d)) = ∑ d : Fin 64, q (ix2 r d) * kk (ix2 k d) := fun k => Finset.sum_congr rfl fun d _ => mul_comm _ _
  simp only [e]
  exact Finset.sum_congr rfl fun k _ => mul_comm _ _

/-- Entry `k` of the window a block loads: the block before (in the first block: the block itself), then its own. -/
def took (a : Fin 2048 → EReal) (n : Fin 16) (k : Fin 256) : EReal :=
  if h : k.val < 128 then a ⟨(n.val - 1) * 128 + k.val, by omega⟩ else a ⟨n.val * 128 + (k.val - 128), by omega⟩

theorem took_later (a : Fin 2048 → EReal) (n : Fin 16) (hn : 1 ≤ n.val) (k : Fin 256) : took a n k = seen a n k := by
  unfold took seen
  by_cases h : k.val < 128
  · rw [dif_pos h]
    simp [h, hn]
  · rw [dif_neg h]
    simp [h]

theorem took_own (a : Fin 2048 → EReal) (n : Fin 16) (k : Fin 256) (h : ¬ k.val < 128) : took a n k = seen a n k := by
  unfold took seen
  rw [dif_neg h]
  simp [h]

theorem select_off (a b : EReal) : Scalar.select 0#1 a b = b := rfl

/-- Whatever the first block loads in place of a block before it counts for nothing. -/
theorem att_took (n : Fin 16) (q : Nat) (Q : Fin 64 → EReal) (a : Fin 64 → Fin 2048 → EReal) (z : Fin 2048 → EReal) (f s : EReal) :
    att (fun k => Scalar.select (bandAt n.val q k.val) ((∑ d : Fin 64, took (a d) n k * Q d) * f) low) s (fun k => took z n k)
      = att (fun k => Scalar.select (bandAt n.val q k.val) ((∑ d : Fin 64, seen (a d) n k * Q d) * f) low) s (fun k => seen z n k) := by
  by_cases hn : 1 ≤ n.val
  · simp only [took_later _ n hn]
  · have h0 : n.val = 0 := by omega
    have e : (fun k : Fin 256 => Scalar.select (bandAt n.val q k.val) ((∑ d : Fin 64, took (a d) n k * Q d) * f) low)
        = fun k : Fin 256 => Scalar.select (bandAt n.val q k.val) ((∑ d : Fin 64, seen (a d) n k * Q d) * f) low := by
      funext k
      by_cases h : k.val < 128
      · rw [h0, bandAt_first q k.val h, select_off, select_off]
      · simp only [took_own _ n k h]
    rw [e]
    refine att_first _ _ _ _ ?_ ?_ ?_ ?_
    · intro k
      show Scalar.select (bandAt n.val q k.val) _ low = ⊥
      rw [h0, bandAt_first q k.val k.isLt, select_off, low_eq]
    · intro k
      unfold seen
      simp [h0]
    · intro k
      unfold took seen
      simp [h0]
    · intro k
      rw [took_own _ _ _ (by simp)]

theorem headK_at (n : Fin 16) (A B C D q : FVec Ideal S128x64 .bf16) (s : EReal) (a z : Fin 64 → Fin 2048 → EReal) (Q : Fin 64 → EReal) (S : EReal) (r : Fin 128) (x : Fin 64)
    (hA : ∀ (k : Fin 128) (d : Fin 64), A (ix2 k d) = a d ⟨(n.val - 1) * 128 + k.val, by omega⟩)
    (hB : ∀ (k : Fin 128) (d : Fin 64), B (ix2 k d) = a d ⟨n.val * 128 + k.val, by omega⟩)
    (hC : ∀ k : Fin 128, C (ix2 k x) = z x ⟨(n.val - 1) * 128 + k.val, by omega⟩)
    (hD : ∀ k : Fin 128, D (ix2 k x) = z x ⟨n.val * 128 + k.val, by omega⟩)
    (hq : ∀ d : Fin 64, q (ix2 r d) = Q d) (hs : s = S) :
    headK n.val A B C D q s (ix2 r x) = att (fun k => Scalar.select (bandAt n.val r.val k.val) ((∑ d : Fin 64, seen (a d) n k * Q d) * Ideal.ofBits .f32 1040187392) low) S (fun k => seen (z x) n k) := by
  rw [← att_took]
  unfold headK
  rw [pay39_at, hs]
  simp only [pay32_at, pay33_at, hA, hB, hC, hD, hq]
  rfl

/-! ## All groups and heads have the same form -/

variable (v : Vec Ideal S128x128 .bf16) (g b : Vec Ideal S1x128 .f32) (w : Vec Ideal S1x128x128 .f32) (B : Vec Ideal S128x128 .f32) (u : Vec Ideal S128x128 .bf16)

theorem group1 : k0_pay10 (F := Ideal) k0_pay4 (k0_pay8 v) (k0_pay9 g) b w B u = groupK v g b w B u := rfl
theorem group2 : k0_pay15 (F := Ideal) k0_pay4 (k0_pay13 v) (k0_pay14 v) g b w B u = groupK v g b w B u := rfl
theorem group3 : k0_pay19 (F := Ideal) k0_pay4 (k0_pay16 v) (k0_pay17 v) (k0_pay18 v) g b w B u = groupK v g b w B u := rfl
theorem group4 : k0_pay23 (F := Ideal) k0_pay4 (k0_pay20 v) (k0_pay21 v) (k0_pay22 v) g b w B u = groupK v g b w B u := rfl
theorem group5 : k0_pay26 (F := Ideal) k0_pay4 (k0_pay24 v) (k0_pay25 v) g b w B u = groupK v g b w B u := rfl
theorem group6 : k0_pay28 (F := Ideal) (k0_pay27 k0_pay4 v g b w B u) = groupK v g b w B u := rfl
theorem group7 : k0_pay31 (F := Ideal) (k0_pay29 k0_pay4 v g b w) (k0_pay30 B) u = groupK v g b w B u := rfl

variable (n : Nat) (A C D q : Vec Ideal S128x64 .bf16) (E : Vec Ideal S128x64 .bf16) (s : Elt Ideal .f32)

theorem head0 : k0_pay37 (F := Ideal) (k0_pay34 C D) (k0_pay35 (BitVec.ofNat 32 n) A E q) s (k0_pay36 (BitVec.ofNat 32 n) A E q) = headK n A E C D q s := rfl
theorem head1 : k0_pay38 (F := Ideal) (k0_pay32 (BitVec.ofNat 32 n)) (k0_pay33 A E) (k0_pay34 C D) q s = headK n A E C D q s := rfl
theorem head2 : k0_pay39 (F := Ideal) (k0_pay32 (BitVec.ofNat 32 n)) (k0_pay33 A E) (k0_pay34 C D) q s = headK n A E C D q s := rfl
theorem head3 : k0_pay43 (F := Ideal) (k0_pay34 C D) s (k0_pay41 (k0_pay32 (BitVec.ofNat 32 n)) (k0_pay33 A E) q s) (k0_pay42 (k0_pay32 (BitVec.ofNat 32 n)) (k0_pay33 A E) q s) = headK n A E C D q s := rfl
theorem head4 : k0_pay44 (F := Ideal) (k0_pay32 (BitVec.ofNat 32 n)) (k0_pay33 A E) (k0_pay34 C D) q s = headK n A E C D q s := rfl
theorem head5 : k0_pay46 (F := Ideal) (k0_pay32 (BitVec.ofNat 32 n)) (k0_pay34 C D) (k0_pay45 (k0_pay33 A E) q) (FloatOps.ofBits FTy.f32 1040187392#32) s = headK n A E C D q s := rfl
theorem head6 : k0_pay51 (F := Ideal) (k0_pay34 C D) (k0_pay49 (k0_pay32 (BitVec.ofNat 32 n)) (k0_pay33 A E) q s) (k0_pay50 (k0_pay32 (BitVec.ofNat 32 n)) (k0_pay33 A E) q s) = headK n A E C D q s := rfl
theorem head7 : k0_pay52 (F := Ideal) (k0_pay32 (BitVec.ofNat 32 n)) (k0_pay33 A E) (k0_pay34 C D) q s = headK n A E C D q s := rfl
theorem head8 : k0_pay55 (F := Ideal) (k0_pay32 (BitVec.ofNat 32 n)) (k0_pay53 A E) C D q s = headK n A E C D q s := rfl
theorem head9 : k0_pay59 (F := Ideal) (k0_pay54 C D) s (k0_pay57 (k0_pay32 (BitVec.ofNat 32 n)) (k0_pay53 A E) q s) (k0_pay58 (k0_pay32 (BitVec.ofNat 32 n)) (k0_pay53 A E) q s) = headK n A E C D q s := rfl
theorem head10 : k0_pay60 (F := Ideal) (k0_pay32 (BitVec.ofNat 32 n)) (k0_pay53 A E) (k0_pay54 C D) q s = headK n A E C D q s := rfl
theorem head11 : k0_pay61 (F := Ideal) (k0_pay32 (BitVec.ofNat 32 n)) (k0_pay53 A E) (k0_pay54 C D) q (constant S128x256 FTy.f32 0#32) s = headK n A E C D q s := rfl
theorem head12 : k0_pay67 (F := Ideal) (k0_pay54 C D) (k0_pay64 (k0_pay32 (BitVec.ofNat 32 n)) (k0_pay53 A E) q s) (k0_pay65 (k0_pay32 (BitVec.ofNat 32 n)) (k0_pay53 A E) q s) (k0_pay66 (k0_pay32 (BitVec.ofNat 32 n)) (k0_pay53 A E) q s) = headK n A E C D q s := rfl
theorem head13 : k0_pay68 (F := Ideal) (k0_pay32 (BitVec.ofNat 32 n)) (k0_pay53 A E) (k0_pay54 C D) q s = headK n A E C D q s := rfl
theorem head14 : k0_pay71 (F := Ideal) (k0_pay32 (BitVec.ofNat 32 n)) (k0_pay54 C D) (k0_pay69 (k0_pay53 A E) q) k0_pay70 s = headK n A E C D q s := rfl
theorem head15 : k0_pay1 (F := Ideal) (k0_pay54 C D) (k0_pay72 (k0_pay32 (BitVec.ofNat 32 n)) (k0_pay53 A E) q s) (constant S128x64 FTy.f32 0#32) = headK n A E C D q s := rfl

end Cert.KernelIdeal.Own
end
-- ==== Proof.Own.MixValue.lean ====
module

public import proofs.«01_k».proof.Defs
public import proofs.«01_k».proof.Proof.Gen.KernelIdeal.Frame
public import proofs.«01_k».proof.Proof.Own.MixPay
public import proofs.«01_k».proof.Proof.Own.OutRefPure
public import Idealize.ShloMosaic.Lib.Claim
public import Idealize.ShloMosaic.Lib.Pointwise
public import Idealize.ShloMosaic.Lib.Pipeline.ValueKit

@[expose] public section

set_option maxRecDepth 16384

noncomputable section

namespace Cert.KernelIdeal.Own

open Cert.KernelIdeal Cert.KernelIdeal.Gen Idealize.ShloMosaic Idealize.ShloMosaic.TcCoe Idealize.SL.Sem Cert.MixScalar
open Idealize.ShloMosaic.Pipeline (Dat)
open Cert.ReferenceIdeal.Own (seen scoreAt left_of right_of)

/-- Where each window's block lies at grid point `t`, and the point's second coordinate. -/
theorem idx : ∀ t : Fin cfg0.N, (grid0.coords t 1).val = t.val % 16 ∧ win0_0.index t = ![0] ∧ win0_1.index t = ![t.val, 0]
    ∧ win0_2.index t = ![t.val, 0] ∧ win0_3.index t = ![t.val, 0] ∧ win0_4.index t = ![t.val, 0]
    ∧ win0_5.index t = ![t.val / 16 * 16 + (t.val % 16 - 1), 0] ∧ win0_6.index t = ![0, 0] ∧ win0_7.index t = ![0, 0]
    ∧ win0_8.index t = ![0, 0, 0] ∧ win0_9.index t = ![0, 0] ∧ win0_10.index t = ![t.val, 0] ∧ win0_11.index t = ![t.val, 0]
    ∧ win0_12.index t = ![t.val, 0] ∧ win0_13.index t = ![t.val, 0] ∧ win0_14.index t = ![t.val, 0] := (by decide +kernel : ∀ t : Fin grid0.N, _)

abbrev KMem := (ℓ : Loc nD τ sig) → Buf (Elt Ideal) ℓ

/-- The reference's left half, at its arguments. -/
theorem left_val (m' : Cert.ReferenceIdeal.Own.Mem) (c : Dev Cert.ReferenceIdeal.nD) (A0 : FVec Ideal S8192x1024 .bf16) (A1 : FVec Ideal S8192x1024 .bf16) (A4 : FVec Ideal S1x8x128 .f32) (A5 : FVec Ideal S1x8x128 .f32) (A6 : FVec Ideal S1x8x128x128 .f32) (A7 : FVec Ideal S1x8x128 .f32) (h0 : m' ((c.tc : Thread Cert.ReferenceIdeal.nD Cert.ReferenceIdeal.τ).loc Cert.ReferenceIdeal.main_arg0) = A0) (h1 : m' ((c.tc : Thread Cert.ReferenceIdeal.nD Cert.ReferenceIdeal.τ).loc Cert.ReferenceIdeal.main_arg1) = A1) (h4 : m' ((c.tc : Thread Cert.ReferenceIdeal.nD Cert.ReferenceIdeal.τ).loc Cert.ReferenceIdeal.main_arg4) = A4) (h5 : m' ((c.tc : Thread Cert.ReferenceIdeal.nD Cert.ReferenceIdeal.τ).loc Cert.ReferenceIdeal.main_arg5) = A5) (h6 : m' ((c.tc : Thread Cert.ReferenceIdeal.nD Cert.ReferenceIdeal.τ).loc Cert.ReferenceIdeal.main_arg6) = A6) (h7 : m' ((c.tc : Thread Cert.ReferenceIdeal.nD Cert.ReferenceIdeal.τ).loc Cert.ReferenceIdeal.main_arg7) = A7)
    (i : Fin 8192) (j : Fin 2048) (b : Fin 4) (n : Fin 16) (t : Fin 128) (g : Fin 8) (d : Fin 128)
    (hi : i.val = (b.val * 16 + n.val) * 128 + t.val) (hj : j.val = g.val * 128 + d.val) :
    Cert.ReferenceIdeal.Own.v_mixR m' c (ix2 i j)
      = A0 (ix2 ⟨(b.val * 16 + n.val) * 128 + t.val, by omega⟩ ⟨g.val * 128 + d.val, by omega⟩)
        * (∑ s : Fin 128, unitAt (fun x => A1 (ix2 ⟨(b.val * 16 + n.val) * 128 + s.val, by omega⟩ ⟨g.val * 128 + x.val, by omega⟩)) (A4 (ix3 0 g d)) (A5 (ix3 0 g d)) d
            * Scalar.select (IntOp.cmpi CmpIPredicate.sge (BitVec.ofNat 32 t.val) (BitVec.ofNat 32 s.val)) (A6 (ix4 0 g t s)) 0
          + A7 (ix3 0 g t)) := by
  subst h0 h1 h4 h5 h6 h7
  exact left_of _ _ _ _ _ _ _ _ _ i j b n t g d hi hj

/-- The reference's right half, at its arguments. -/
theorem right_val (m' : Cert.ReferenceIdeal.Own.Mem) (c : Dev Cert.ReferenceIdeal.nD) (A2 : FVec Ideal S8192x1024 .bf16) (A3 : FVec Ideal S8192x256 .bf16) (A8 : FVec Ideal S1x16 .f32) (h2 : m' ((c.tc : Thread Cert.ReferenceIdeal.nD Cert.ReferenceIdeal.τ).loc Cert.ReferenceIdeal.main_arg2) = A2) (h3 : m' ((c.tc : Thread Cert.ReferenceIdeal.nD Cert.ReferenceIdeal.τ).loc Cert.ReferenceIdeal.main_arg3) = A3) (h8 : m' ((c.tc : Thread Cert.ReferenceIdeal.nD Cert.ReferenceIdeal.τ).loc Cert.ReferenceIdeal.main_arg8) = A8)
    (i : Fin 8192) (j : Fin 2048) (b : Fin 4) (n : Fin 16) (q : Fin 128) (h : Fin 2) (g : Fin 8) (x : Fin 64)
    (hi : i.val = (b.val * 16 + n.val) * 128 + q.val) (hj : j.val = 1024 + (h.val * 8 + g.val) * 64 + x.val) :
    Cert.ReferenceIdeal.Own.v_mixR m' c (ix2 i j)
      = att (fun k => Scalar.select (bandAt n.val q.val k.val) ((∑ d : Fin 64, seen (fun s => A3 (ix2 ⟨b.val * 2048 + s.val, by omega⟩ ⟨h.val * 64 + d.val, by omega⟩)) n k
          * A2 (ix2 ⟨b.val * 2048 + (n.val * 128 + q.val), by omega⟩ ⟨(h.val * 8 + g.val) * 64 + d.val, by omega⟩)) * Ideal.ofBits FTy.f32 1040187392#32) low)
        (A8 (ix2 0 ⟨h.val * 8 + g.val, by omega⟩))
        (fun k => seen (fun s => A3 (ix2 ⟨b.val * 2048 + s.val, by omega⟩ ⟨128 + (h.val * 64 + x.val), by omega⟩)) n k) := by
  subst h2 h3 h8
  exact right_of _ _ _ _ i j b n q h g x hi hj _ rfl _ rfl

/-- The sinks, gain, shift, mixing weights and bias as the kernel's windows hold them. -/
theorem sink_at (m : KMem) (c : Dev nD) (t : Fin cfg0.N) (y : S16.Idx) (k : Fin 16) (hy : (y 0 : Nat) = k.val) :
    (iblk m c 0 t : FVec Ideal S16 .f32) y = (m ((c.tc : Thread nD τ).loc main_arg8) : FVec Ideal S1x16 .f32) (ix2 0 k) := by
  idx_vars y
  blk_simp [iblk, V, idx t]
  pointwise []
  blk_point [idx t]

theorem gain_at (m : KMem) (c : Dev nD) (t : Fin cfg0.N) (y : S1x1024.Idx) (g : Fin 8) (d : Fin 128) (hy : (y 1 : Nat) = g.val * 128 + d.val) :
    (iblk m c 6 t : FVec Ideal S1x1024 .f32) y = (m ((c.tc : Thread nD τ).loc main_arg4) : FVec Ideal S1x8x128 .f32) (ix3 0 g d) := by
  idx_vars y
  obtain rfl : y0 = 0 := Subsingleton.elim _ _
  blk_simp [iblk, V, idx t]
  pointwise []
  blk_point [idx t]

theorem shift_at (m : KMem) (c : Dev nD) (t : Fin cfg0.N) (y : S1x1024.Idx) (g : Fin 8) (d : Fin 128) (hy : (y 1 : Nat) = g.val * 128 + d.val) :
    (iblk m c 7 t : FVec Ideal S1x1024 .f32) y = (m ((c.tc : Thread nD τ).loc main_arg5) : FVec Ideal S1x8x128 .f32) (ix3 0 g d) := by
  idx_vars y
  obtain rfl : y0 = 0 := Subsingleton.elim _ _
  blk_simp [iblk, V, idx t]
  pointwise []
  blk_point [idx t]

theorem spat_at (m : KMem) (c : Dev nD) (t : Fin cfg0.N) (y : S8x128x128.Idx) (g : Fin 8) (r s : Fin 128) (h0 : (y 0 : Nat) = g.val) (h1 : (y 1 : Nat) = r.val) (h2 : (y 2 : Nat) = s.val) :
    (iblk m c 8 t : FVec Ideal S8x128x128 .f32) y = (m ((c.tc : Thread nD τ).loc main_arg6) : FVec Ideal S1x8x128x128 .f32) (ix4 0 g r s) := by
  idx_vars y
  blk_simp [iblk, V, idx t]
  pointwise []
  blk_point [idx t]

theorem bias_at (m : KMem) (c : Dev nD) (t : Fin cfg0.N) (y : S128x1024.Idx) (g : Fin 8) (r d : Fin 128) (h0 : (y 0 : Nat) = r.val) (h1 : (y 1 : Nat) = g.val * 128 + d.val) :
    (iblk m c 9 t : FVec Ideal S128x1024 .f32) y = (m ((c.tc : Thread nD τ).loc main_arg7) : FVec Ideal S1x8x128 .f32) (ix3 0 g r) := by
  idx_vars y
  blk_simp [iblk, V, idx t]
  pointwise []
  blk_point [idx t]

/-- One entry of a gating group, from the entries of its blocks. -/
theorem groupK_val (v : FVec Ideal S128x128 .bf16) (g b : FVec Ideal S1x128 .f32) (w : FVec Ideal S1x128x128 .f32) (B : FVec Ideal S128x128 .f32) (u : FVec Ideal S128x128 .bf16)
    (Vf : Fin 128 → Fin 128 → EReal) (Gf Sf Bf Uf : EReal) (Wf : Fin 128 → EReal) (r d : Fin 128) (hv : ∀ s x, v (ix2 s x) = Vf s x) (hg : g (ix2 0 d) = Gf) (hb : b (ix2 0 d) = Sf)
    (hw : ∀ s, w (ix3 0 r s) = Wf s) (hB : B (ix2 r d) = Bf) (hu : u (ix2 r d) = Uf) :
    groupK v g b w B u (ix2 r d) = Uf * (∑ s : Fin 128, unitAt (fun x => Vf s x) Gf Sf d * Scalar.select (IntOp.cmpi .sge (BitVec.ofNat 32 r.val) (BitVec.ofNat 32 s.val)) (Wf s) 0 + Bf) := by
  rw [groupK_at]
  simp only [hv, hg, hb, hw, hB, hu]

theorem pay2_at (w : FVec Ideal S32x2048 .f32) (i : Fin 32) (j : Fin 2048) : k0_pay2 (F := Ideal) w (ix2 i j) = w (ix2 i j) := by
  pointwise [k0_pay2]

theorem pay3_at (w : FVec Ideal S32x2048 .f32) (i : Fin 32) (j : Fin 2048) : k0_pay3 (F := Ideal) w (ix2 i j) = w (ix2 i j) := by
  pointwise [k0_pay3]

/-- The arguments of both programs agree. -/
def Agree (m : KMem) (m' : Cert.ReferenceIdeal.Own.Mem) (c : Dev nD) : Prop :=
m' ((c.tc : Thread Cert.ReferenceIdeal.nD Cert.ReferenceIdeal.τ).loc Cert.ReferenceIdeal.main_arg0) = m ((c.tc : Thread nD τ).loc main_arg0) ∧ m' ((c.tc : Thread Cert.ReferenceIdeal.nD Cert.ReferenceIdeal.τ).loc Cert.ReferenceIdeal.main_arg1) = m ((c.tc : Thread nD τ).loc main_arg1) ∧ m' ((c.tc : Thread Cert.ReferenceIdeal.nD Cert.ReferenceIdeal.τ).loc Cert.ReferenceIdeal.main_arg2) = m ((c.tc : Thread nD τ).loc main_arg2) ∧ m' ((c.tc : Thread Cert.ReferenceIdeal.nD Cert.ReferenceIdeal.τ).loc Cert.ReferenceIdeal.main_arg3) = m ((c.tc : Thread nD τ).loc main_arg3) ∧ m' ((c.tc : Thread Cert.ReferenceIdeal.nD Cert.ReferenceIdeal.τ).loc Cert.ReferenceIdeal.main_arg4) = m ((c.tc : Thread nD τ).loc main_arg4) ∧ m' ((c.tc : Thread Cert.ReferenceIdeal.nD Cert.ReferenceIdeal.τ).loc Cert.ReferenceIdeal.main_arg5) = m ((c.tc : Thread nD τ).loc main_arg5) ∧ m' ((c.tc : Thread Cert.ReferenceIdeal.nD Cert.ReferenceIdeal.τ).loc Cert.ReferenceIdeal.main_arg6) = m ((c.tc : Thread nD τ).loc main_arg6) ∧ m' ((c.tc : Thread Cert.ReferenceIdeal.nD Cert.ReferenceIdeal.τ).loc Cert.ReferenceIdeal.main_arg7) = m ((c.tc : Thread nD τ).loc main_arg7) ∧ m' ((c.tc : Thread Cert.ReferenceIdeal.nD Cert.ReferenceIdeal.τ).loc Cert.ReferenceIdeal.main_arg8) = m ((c.tc : Thread nD τ).loc main_arg8) ∧ m' ((c.tc : Thread Cert.ReferenceIdeal.nD Cert.ReferenceIdeal.τ).loc Cert.ReferenceIdeal.main_arg9) = m ((c.tc : Thread nD τ).loc main_arg9) ∧ m' ((c.tc : Thread Cert.ReferenceIdeal.nD Cert.ReferenceIdeal.τ).loc Cert.ReferenceIdeal.main_arg10) = m ((c.tc : Thread nD τ).loc main_arg10)

set_option maxHeartbeats 4000000 in
theorem after12_at (m : KMem) (m' : Cert.ReferenceIdeal.Own.Mem) (c : Dev nD) (ag : Agree m m' c) (t : Fin cfg0.N) (r : Fin 128) (j : Fin 2048) (i : Fin 8192) (hi : i.val = t.val * 128 + r.val) :
    (dats m 0 c).after 12 t (ix2 r j) = Cert.ReferenceIdeal.Own.v_mixR m' c (ix2 i j) := by
  obtain ⟨a0, a1, a2, a3, a4, a5, a6, a7, a8, -, -⟩ := ag
  have ht : t.val < 64 := lt_of_lt_of_eq t.isLt N_0
  rw [after0_12]
  unfold Gen.outsAt0
  frame_out
  canon_tiles x e using View.cover_of_tiledBy _ ![128, 64] (by sl_kernel_rfl) _
  case piece0 =>
    change (r : ℕ) = _ at e0
    refine (congrFun (head15 _ _ _ _ _ _ _) x).trans ?_
    obtain ⟨x0, x1, rfl⟩ : ∃ (x0 : Fin 128) (x1 : Fin 64), x = ix2 x0 x1 := ⟨x 0, x 1, by ext a; fin_cases a <;> rfl⟩
    obtain rfl : r = x0 := Fin.ext e0
    change (j : ℕ) = 1984 + (x1 : ℕ) at e1
    rw [(idx t).1]
    refine (headK_at ⟨t.val % 16, by omega⟩ _ _ _ _ _ _ (fun d s => (m ((c.tc : Thread nD τ).loc main_arg3) : FVec Ideal S8192x256 .bf16) (ix2 ⟨t.val / 16 * 2048 + s.val, by omega⟩ ⟨1 * 64 + d.val, by omega⟩)) (fun d s => (m ((c.tc : Thread nD τ).loc main_arg3) : FVec Ideal S8192x256 .bf16) (ix2 ⟨t.val / 16 * 2048 + s.val, by omega⟩ ⟨128 + (1 * 64 + d.val), by omega⟩)) (fun d => (m ((c.tc : Thread nD τ).loc main_arg2) : FVec Ideal S8192x1024 .bf16) (ix2 ⟨t.val / 16 * 2048 + (t.val % 16 * 128 + r.val), by omega⟩ ⟨(1 * 8 + 7) * 64 + d.val, by omega⟩)) ((m ((c.tc : Thread nD τ).loc main_arg8) : FVec Ideal S1x16 .f32) (ix2 0 15)) r x1 ?_ ?_ ?_ ?_ ?_ ?_).trans ?_
    · intro k d; blk_point [iblk, V, idx t]
    · intro k d; blk_point [iblk, V, idx t]
    · intro k; blk_point [iblk, V, idx t]
    · intro k; blk_point [iblk, V, idx t]
    · intro d; blk_point [iblk, V, idx t]
    · exact sink_at m c t _ 15 rfl
    · rw [right_val m' c _ _ _ a2 a3 a8 i j ⟨t.val / 16, by omega⟩ ⟨t.val % 16, by omega⟩ r 1 7 x1 (by show i.val = (t.val / 16 * 16 + t.val % 16) * 128 + r.val; omega) (by show j.val = 1024 + (1 * 8 + 7) * 64 + x1.val; omega)]
      rfl
  case piece1 =>
    change (r : ℕ) = _ at e0
    refine (congrFun (head14 _ _ _ _ _ _ _) x).trans ?_
    obtain ⟨x0, x1, rfl⟩ : ∃ (x0 : Fin 128) (x1 : Fin 64), x = ix2 x0 x1 := ⟨x 0, x 1, by ext a; fin_cases a <;> rfl⟩
    obtain rfl : r = x0 := Fin.ext e0
    change (j : ℕ) = 1920 + (x1 : ℕ) at e1
    rw [(idx t).1]
    refine (headK_at ⟨t.val % 16, by omega⟩ _ _ _ _ _ _ (fun d s => (m ((c.tc : Thread nD τ).loc main_arg3) : FVec Ideal S8192x256 .bf16) (ix2 ⟨t.val / 16 * 2048 + s.val, by omega⟩ ⟨1 * 64 + d.val, by omega⟩)) (fun d s => (m ((c.tc : Thread nD τ).loc main_arg3) : FVec Ideal S8192x256 .bf16) (ix2 ⟨t.val / 16 * 2048 + s.val, by omega⟩ ⟨128 + (1 * 64 + d.val), by omega⟩)) (fun d => (m ((c.tc : Thread nD τ).loc main_arg2) : FVec Ideal S8192x1024 .bf16) (ix2 ⟨t.val / 16 * 2048 + (t.val % 16 * 128 + r.val), by omega⟩ ⟨(1 * 8 + 6) * 64 + d.val, by omega⟩)) ((m ((c.tc : Thread nD τ).loc main_arg8) : FVec Ideal S1x16 .f32) (ix2 0 14)) r x1 ?_ ?_ ?_ ?_ ?_ ?_).trans ?_
    · intro k d; blk_point [iblk, V, idx t]
    · intro k d; blk_point [iblk, V, idx t]
    · intro k; blk_point [iblk, V, idx t]
    · intro k; blk_point [iblk, V, idx t]
    · intro d; blk_point [iblk, V, idx t]
    · exact sink_at m c t _ 14 rfl
    · rw [right_val m' c _ _ _ a2 a3 a8 i j ⟨t.val / 16, by omega⟩ ⟨t.val % 16, by omega⟩ r 1 6 x1 (by show i.val = (t.val / 16 * 16 + t.val % 16) * 128 + r.val; omega) (by show j.val = 1024 + (1 * 8 + 6) * 64 + x1.val; omega)]
      rfl
  case piece2 =>
    change (r : ℕ) = _ at e0
    refine (congrFun (head13 _ _ _ _ _ _ _) x).trans ?_
    obtain ⟨x0, x1, rfl⟩ : ∃ (x0 : Fin 128) (x1 : Fin 64), x = ix2 x0 x1 := ⟨x 0, x 1, by ext a; fin_cases a <;> rfl⟩
    obtain rfl : r = x0 := Fin.ext e0
    change (j : ℕ) = 1856 + (x1 : ℕ) at e1
    rw [(idx t).1]
    refine (headK_at ⟨t.val % 16, by omega⟩ _ _ _ _ _ _ (fun d s => (m ((c.tc : Thread nD τ).loc main_arg3) : FVec Ideal S8192x256 .bf16) (ix2 ⟨t.val / 16 * 2048 + s.val, by omega⟩ ⟨1 * 64 + d.val, by omega⟩)) (fun d s => (m ((c.tc : Thread nD τ).loc main_arg3) : FVec Ideal S8192x256 .bf16) (ix2 ⟨t.val / 16 * 2048 + s.val, by omega⟩ ⟨128 + (1 * 64 + d.val), by omega⟩)) (fun d => (m ((c.tc : Thread nD τ).loc main_arg2) : FVec Ideal S8192x1024 .bf16) (ix2 ⟨t.val / 16 * 2048 + (t.val % 16 * 128 + r.val), by omega⟩ ⟨(1 * 8 + 5) * 64 + d.val, by omega⟩)) ((m ((c.tc : Thread nD τ).loc main_arg8) : FVec Ideal S1x16 .f32) (ix2 0 13)) r x1 ?_ ?_ ?_ ?_ ?_ ?_).trans ?_
    · intro k d; blk_point [iblk, V, idx t]
    · intro k d; blk_point [iblk, V, idx t]
    · intro k; blk_point [iblk, V, idx t]
    · intro k; blk_point [iblk, V, idx t]
    · intro d; blk_point [iblk, V, idx t]
    · exact sink_at m c t _ 13 rfl
    · rw [right_val m' c _ _ _ a2 a3 a8 i j ⟨t.val / 16, by omega⟩ ⟨t.val % 16, by omega⟩ r 1 5 x1 (by show i.val = (t.val / 16 * 16 + t.val % 16) * 128 + r.val; omega) (by show j.val = 1024 + (1 * 8 + 5) * 64 + x1.val; omega)]
      rfl
  case piece3 =>
    change (r : ℕ) = _ at e0
    refine (congrFun (head12 _ _ _ _ _ _ _) x).trans ?_
    obtain ⟨x0, x1, rfl⟩ : ∃ (x0 : Fin 128) (x1 : Fin 64), x = ix2 x0 x1 := ⟨x 0, x 1, by ext a; fin_cases a <;> rfl⟩
    obtain rfl : r = x0 := Fin.ext e0
    change (j : ℕ) = 1792 + (x1 : ℕ) at e1
    rw [(idx t).1]
    refine (headK_at ⟨t.val % 16, by omega⟩ _ _ _ _ _ _ (fun d s => (m ((c.tc : Thread nD τ).loc main_arg3) : FVec Ideal S8192x256 .bf16) (ix2 ⟨t.val / 16 * 2048 + s.val, by omega⟩ ⟨1 * 64 + d.val, by omega⟩)) (fun d s => (m ((c.tc : Thread nD τ).loc main_arg3) : FVec Ideal S8192x256 .bf16) (ix2 ⟨t.val / 16 * 2048 + s.val, by omega⟩ ⟨128 + (1 * 64 + d.val), by omega⟩)) (fun d => (m ((c.tc : Thread nD τ).loc main_arg2) : FVec Ideal S8192x1024 .bf16) (ix2 ⟨t.val / 16 * 2048 + (t.val % 16 * 128 + r.val), by omega⟩ ⟨(1 * 8 + 4) * 64 + d.val, by omega⟩)) ((m ((c.tc : Thread nD τ).loc main_arg8) : FVec Ideal S1x16 .f32) (ix2 0 12)) r x1 ?_ ?_ ?_ ?_ ?_ ?_).trans ?_
    · intro k d; blk_point [iblk, V, idx t]
    · intro k d; blk_point [iblk, V, idx t]
    · intro k; blk_point [iblk, V, idx t]
    · intro k; blk_point [iblk, V, idx t]
    · intro d; blk_point [iblk, V, idx t]
    · exact sink_at m c t _ 12 rfl
    · rw [right_val m' c _ _ _ a2 a3 a8 i j ⟨t.val / 16, by omega⟩ ⟨t.val % 16, by omega⟩ r 1 4 x1 (by show i.val = (t.val / 16 * 16 + t.val % 16) * 128 + r.val; omega) (by show j.val = 1024 + (1 * 8 + 4) * 64 + x1.val; omega)]
      rfl
  case piece4 =>
    change (r : ℕ) = _ at e0
    refine (congrFun (head11 _ _ _ _ _ _ _) x).trans ?_
    obtain ⟨x0, x1, rfl⟩ : ∃ (x0 : Fin 128) (x1 : Fin 64), x = ix2 x0 x1 := ⟨x 0, x 1, by ext a; fin_cases a <;> rfl⟩
    obtain rfl : r = x0 := Fin.ext e0
    change (j : ℕ) = 1728 + (x1 : ℕ) at e1
    rw [(idx t).1]
    refine (headK_at ⟨t.val % 16, by omega⟩ _ _ _ _ _ _ (fun d s => (m ((c.tc : Thread nD τ).loc main_arg3) : FVec Ideal S8192x256 .bf16) (ix2 ⟨t.val / 16 * 2048 + s.val, by omega⟩ ⟨1 * 64 + d.val, by omega⟩)) (fun d s => (m ((c.tc : Thread nD τ).loc main_arg3) : FVec Ideal S8192x256 .bf16) (ix2 ⟨t.val / 16 * 2048 + s.val, by omega⟩ ⟨128 + (1 * 64 + d.val), by omega⟩)) (fun d => (m ((c.tc : Thread nD τ).loc main_arg2) : FVec Ideal S8192x1024 .bf16) (ix2 ⟨t.val / 16 * 2048 + (t.val % 16 * 128 + r.val), by omega⟩ ⟨(1 * 8 + 3) * 64 + d.val, by omega⟩)) ((m ((c.tc : Thread nD τ).loc main_arg8) : FVec Ideal S1x16 .f32) (ix2 0 11)) r x1 ?_ ?_ ?_ ?_ ?_ ?_).trans ?_
    · intro k d; blk_point [iblk, V, idx t]
    · intro k d; blk_point [iblk, V, idx t]
    · intro k; blk_point [iblk, V, idx t]
    · intro k; blk_point [iblk, V, idx t]
    · intro d; blk_point [iblk, V, idx t]
    · exact sink_at m c t _ 11 rfl
    · rw [right_val m' c _ _ _ a2 a3 a8 i j ⟨t.val / 16, by omega⟩ ⟨t.val % 16, by omega⟩ r 1 3 x1 (by show i.val = (t.val / 16 * 16 + t.val % 16) * 128 + r.val; omega) (by show j.val = 1024 + (1 * 8 + 3) * 64 + x1.val; omega)]
      rfl
  case piece5 =>
    change (r : ℕ) = _ at e0
    refine (congrFun (head10 _ _ _ _ _ _ _) x).trans ?_
    obtain ⟨x0, x1, rfl⟩ : ∃ (x0 : Fin 128) (x1 : Fin 64), x = ix2 x0 x1 := ⟨x 0, x 1, by ext a; fin_cases a <;> rfl⟩
    obtain rfl : r = x0 := Fin.ext e0
    change (j : ℕ) = 1664 + (x1 : ℕ) at e1
    rw [(idx t).1]
    refine (headK_at ⟨t.val % 16, by omega⟩ _ _ _ _ _ _ (fun d s => (m ((c.tc : Thread nD τ).loc main_arg3) : FVec Ideal S8192x256 .bf16) (ix2 ⟨t.val / 16 * 2048 + s.val, by omega⟩ ⟨1 * 64 + d.val, by omega⟩)) (fun d s => (m ((c.tc : Thread nD τ).loc main_arg3) : FVec Ideal S8192x256 .bf16) (ix2 ⟨t.val / 16 * 2048 + s.val, by omega⟩ ⟨128 + (1 * 64 + d.val), by omega⟩)) (fun d => (m ((c.tc : Thread nD τ).loc main_arg2) : FVec Ideal S8192x1024 .bf16) (ix2 ⟨t.val / 16 * 2048 + (t.val % 16 * 128 + r.val), by omega⟩ ⟨(1 * 8 + 2) * 64 + d.val, by omega⟩)) ((m ((c.tc : Thread nD τ).loc main_arg8) : FVec Ideal S1x16 .f32) (ix2 0 10)) r x1 ?_ ?_ ?_ ?_ ?_ ?_).trans ?_
    · intro k d; blk_point [iblk, V, idx t]
    · intro k d; blk_point [iblk, V, idx t]
    · intro k; blk_point [iblk, V, idx t]
    · intro k; blk_point [iblk, V, idx t]
    · intro d; blk_point [iblk, V, idx t]
    · exact sink_at m c t _ 10 rfl
    · rw [right_val m' c _ _ _ a2 a3 a8 i j ⟨t.val / 16, by omega⟩ ⟨t.val % 16, by omega⟩ r 1 2 x1 (by show i.val = (t.val / 16 * 16 + t.val % 16) * 128 + r.val; omega) (by show j.val = 1024 + (1 * 8 + 2) * 64 + x1.val; omega)]
      rfl
  case piece6 =>
    change (r : ℕ) = _ at e0
    refine (congrFun (head9 _ _ _ _ _ _ _) x).trans ?_
    obtain ⟨x0, x1, rfl⟩ : ∃ (x0 : Fin 128) (x1 : Fin 64), x = ix2 x0 x1 := ⟨x 0, x 1, by ext a; fin_cases a <;> rfl⟩
    obtain rfl : r = x0 := Fin.ext e0
    change (j : ℕ) = 1600 + (x1 : ℕ) at e1
    rw [(idx t).1]
    refine (headK_at ⟨t.val % 16, by omega⟩ _ _ _ _ _ _ (fun d s => (m ((c.tc : Thread nD τ).loc main_arg3) : FVec Ideal S8192x256 .bf16) (ix2 ⟨t.val / 16 * 2048 + s.val, by omega⟩ ⟨1 * 64 + d.val, by omega⟩)) (fun d s => (m ((c.tc : Thread nD τ).loc main_arg3) : FVec Ideal S8192x256 .bf16) (ix2 ⟨t.val / 16 * 2048 + s.val, by omega⟩ ⟨128 + (1 * 64 + d.val), by omega⟩)) (fun d => (m ((c.tc : Thread nD τ).loc main_arg2) : FVec Ideal S8192x1024 .bf16) (ix2 ⟨t.val / 16 * 2048 + (t.val % 16 * 128 + r.val), by omega⟩ ⟨(1 * 8 + 1) * 64 + d.val, by omega⟩)) ((m ((c.tc : Thread nD τ).loc main_arg8) : FVec Ideal S1x16 .f32) (ix2 0 9)) r x1 ?_ ?_ ?_ ?_ ?_ ?_).trans ?_
    · intro k d; blk_point [iblk, V, idx t]
    · intro k d; blk_point [iblk, V, idx t]
    · intro k; blk_point [iblk, V, idx t]
    · intro k; blk_point [iblk, V, idx t]
    · intro d; blk_point [iblk, V, idx t]
    · exact sink_at m c t _ 9 rfl
    · rw [right_val m' c _ _ _ a2 a3 a8 i j ⟨t.val / 16, by omega⟩ ⟨t.val % 16, by omega⟩ r 1 1 x1 (by show i.val = (t.val / 16 * 16 + t.val % 16) * 128 + r.val; omega) (by show j.val = 1024 + (1 * 8 + 1) * 64 + x1.val; omega)]
      rfl
  case piece7 =>
    change (r : ℕ) = _ at e0
    refine (congrFun (head8 _ _ _ _ _ _ _) x).trans ?_
    obtain ⟨x0, x1, rfl⟩ : ∃ (x0 : Fin 128) (x1 : Fin 64), x = ix2 x0 x1 := ⟨x 0, x 1, by ext a; fin_cases a <;> rfl⟩
    obtain rfl : r = x0 := Fin.ext e0
    change (j : ℕ) = 1536 + (x1 : ℕ) at e1
    rw [(idx t).1]
    refine (headK_at ⟨t.val % 16, by omega⟩ _ _ _ _ _ _ (fun d s => (m ((c.tc : Thread nD τ).loc main_arg3) : FVec Ideal S8192x256 .bf16) (ix2 ⟨t.val / 16 * 2048 + s.val, by omega⟩ ⟨1 * 64 + d.val, by omega⟩)) (fun d s => (m ((c.tc : Thread nD τ).loc main_arg3) : FVec Ideal S8192x256 .bf16) (ix2 ⟨t.val / 16 * 2048 + s.val, by omega⟩ ⟨128 + (1 * 64 + d.val), by omega⟩)) (fun d => (m ((c.tc : Thread nD τ).loc main_arg2) : FVec Ideal S8192x1024 .bf16) (ix2 ⟨t.val / 16 * 2048 + (t.val % 16 * 128 + r.val), by omega⟩ ⟨(1 * 8 + 0) * 64 + d.val, by omega⟩)) ((m ((c.tc : Thread nD τ).loc main_arg8) : FVec Ideal S1x16 .f32) (ix2 0 8)) r x1 ?_ ?_ ?_ ?_ ?_ ?_).trans ?_
    · intro k d; blk_point [iblk, V, idx t]
    · intro k d; blk_point [iblk, V, idx t]
    · intro k; blk_point [iblk, V, idx t]
    · intro k; blk_point [iblk, V, idx t]
    · intro d; blk_point [iblk, V, idx t]
    · exact sink_at m c t _ 8 rfl
    · rw [right_val m' c _ _ _ a2 a3 a8 i j ⟨t.val / 16, by omega⟩ ⟨t.val % 16, by omega⟩ r 1 0 x1 (by show i.val = (t.val / 16 * 16 + t.val % 16) * 128 + r.val; omega) (by show j.val = 1024 + (1 * 8 + 0) * 64 + x1.val; omega)]
      rfl
  case piece8 =>
    change (r : ℕ) = _ at e0
    refine (congrFun (head7 _ _ _ _ _ _ _) x).trans ?_
    obtain ⟨x0, x1, rfl⟩ : ∃ (x0 : Fin 128) (x1 : Fin 64), x = ix2 x0 x1 := ⟨x 0, x 1, by ext a; fin_cases a <;> rfl⟩
    obtain rfl : r = x0 := Fin.ext e0
    change (j : ℕ) = 1472 + (x1 : ℕ) at e1
    rw [(idx t).1]
    refine (headK_at ⟨t.val % 16, by omega⟩ _ _ _ _ _ _ (fun d s => (m ((c.tc : Thread nD τ).loc main_arg3) : FVec Ideal S8192x256 .bf16) (ix2 ⟨t.val / 16 * 2048 + s.val, by omega⟩ ⟨0 * 64 + d.val, by omega⟩)) (fun d s => (m ((c.tc : Thread nD τ).loc main_arg3) : FVec Ideal S8192x256 .bf16) (ix2 ⟨t.val / 16 * 2048 + s.val, by omega⟩ ⟨128 + (0 * 64 + d.val), by omega⟩)) (fun d => (m ((c.tc : Thread nD τ).loc main_arg2) : FVec Ideal S8192x1024 .bf16) (ix2 ⟨t.val / 16 * 2048 + (t.val % 16 * 128 + r.val), by omega⟩ ⟨(0 * 8 + 7) * 64 + d.val, by omega⟩)) ((m ((c.tc : Thread nD τ).loc main_arg8) : FVec Ideal S1x16 .f32) (ix2 0 7)) r x1 ?_ ?_ ?_ ?_ ?_ ?_).trans ?_
    · intro k d; blk_point [iblk, V, idx t]
    · intro k d; blk_point [iblk, V, idx t]
    · intro k; blk_point [iblk, V, idx t]
    · intro k; blk_point [iblk, V, idx t]
    · intro d; blk_point [iblk, V, idx t]
    · exact sink_at m c t _ 7 rfl
    · rw [right_val m' c _ _ _ a2 a3 a8 i j ⟨t.val / 16, by omega⟩ ⟨t.val % 16, by omega⟩ r 0 7 x1 (by show i.val = (t.val / 16 * 16 + t.val % 16) * 128 + r.val; omega) (by show j.val = 1024 + (0 * 8 + 7) * 64 + x1.val; omega)]
      rfl
  case piece9 =>
    change (r : ℕ) = _ at e0
    refine (congrFun (head6 _ _ _ _ _ _ _) x).trans ?_
    obtain ⟨x0, x1, rfl⟩ : ∃ (x0 : Fin 128) (x1 : Fin 64), x = ix2 x0 x1 := ⟨x 0, x 1, by ext a; fin_cases a <;> rfl⟩
    obtain rfl : r = x0 := Fin.ext e0
    change (j : ℕ) = 1408 + (x1 : ℕ) at e1
    rw [(idx t).1]
    refine (headK_at ⟨t.val % 16, by omega⟩ _ _ _ _ _ _ (fun d s => (m ((c.tc : Thread nD τ).loc main_arg3) : FVec Ideal S8192x256 .bf16) (ix2 ⟨t.val / 16 * 2048 + s.val, by omega⟩ ⟨0 * 64 + d.val, by omega⟩)) (fun d s => (m ((c.tc : Thread nD τ).loc main_arg3) : FVec Ideal S8192x256 .bf16) (ix2 ⟨t.val / 16 * 2048 + s.val, by omega⟩ ⟨128 + (0 * 64 + d.val), by omega⟩)) (fun d => (m ((c.tc : Thread nD τ).loc main_arg2) : FVec Ideal S8192x1024 .bf16) (ix2 ⟨t.val / 16 * 2048 + (t.val % 16 * 128 + r.val), by omega⟩ ⟨(0 * 8 + 6) * 64 + d.val, by omega⟩)) ((m ((c.tc : Thread nD τ).loc main_arg8) : FVec Ideal S1x16 .f32) (ix2 0 6)) r x1 ?_ ?_ ?_ ?_ ?_ ?_).trans ?_
    · intro k d; blk_point [iblk, V, idx t]
    · intro k d; blk_point [iblk, V, idx t]
    · intro k; blk_point [iblk, V, idx t]
    · intro k; blk_point [iblk, V, idx t]
    · intro d; blk_point [iblk, V, idx t]
    · exact sink_at m c t _ 6 rfl
    · rw [right_val m' c _ _ _ a2 a3 a8 i j ⟨t.val / 16, by omega⟩ ⟨t.val % 16, by omega⟩ r 0 6 x1 (by show i.val = (t.val / 16 * 16 + t.val % 16) * 128 + r.val; omega) (by show j.val = 1024 + (0 * 8 + 6) * 64 + x1.val; omega)]
      rfl
  case piece10 =>
    change (r : ℕ) = _ at e0
    refine (congrFun (head5 _ _ _ _ _ _ _) x).trans ?_
    obtain ⟨x0, x1, rfl⟩ : ∃ (x0 : Fin 128) (x1 : Fin 64), x = ix2 x0 x1 := ⟨x 0, x 1, by ext a; fin_cases a <;> rfl⟩
    obtain rfl : r = x0 := Fin.ext e0
    change (j : ℕ) = 1344 + (x1 : ℕ) at e1
    rw [(idx t).1]
    refine (headK_at ⟨t.val % 16, by omega⟩ _ _ _ _ _ _ (fun d s => (m ((c.tc : Thread nD τ).loc main_arg3) : FVec Ideal S8192x256 .bf16) (ix2 ⟨t.val / 16 * 2048 + s.val, by omega⟩ ⟨0 * 64 + d.val, by omega⟩)) (fun d s => (m ((c.tc : Thread nD τ).loc main_arg3) : FVec Ideal S8192x256 .bf16) (ix2 ⟨t.val / 16 * 2048 + s.val, by omega⟩ ⟨128 + (0 * 64 + d.val), by omega⟩)) (fun d => (m ((c.tc : Thread nD τ).loc main_arg2) : FVec Ideal S8192x1024 .bf16) (ix2 ⟨t.val / 16 * 2048 + (t.val % 16 * 128 + r.val), by omega⟩ ⟨(0 * 8 + 5) * 64 + d.val, by omega⟩)) ((m ((c.tc : Thread nD τ).loc main_arg8) : FVec Ideal S1x16 .f32) (ix2 0 5)) r x1 ?_ ?_ ?_ ?_ ?_ ?_).trans ?_
    · intro k d; blk_point [iblk, V, idx t]
    · intro k d; blk_point [iblk, V, idx t]
    · intro k; blk_point [iblk, V, idx t]
    · intro k; blk_point [iblk, V, idx t]
    · intro d; blk_point [iblk, V, idx t]
    · exact sink_at m c t _ 5 rfl
    · rw [right_val m' c _ _ _ a2 a3 a8 i j ⟨t.val / 16, by omega⟩ ⟨t.val % 16, by omega⟩ r 0 5 x1 (by show i.val = (t.val / 16 * 16 + t.val % 16) * 128 + r.val; omega) (by show j.val = 1024 + (0 * 8 + 5) * 64 + x1.val; omega)]
      rfl
  case piece11 =>
    change (r : ℕ) = _ at e0
    refine (congrFun (head4 _ _ _ _ _ _ _) x).trans ?_
    obtain ⟨x0, x1, rfl⟩ : ∃ (x0 : Fin 128) (x1 : Fin 64), x = ix2 x0 x1 := ⟨x 0, x 1, by ext a; fin_cases a <;> rfl⟩
    obtain rfl : r = x0 := Fin.ext e0
    change (j : ℕ) = 1280 + (x1 : ℕ) at e1
    rw [(idx t).1]
    refine (headK_at ⟨t.val % 16, by omega⟩ _ _ _ _ _ _ (fun d s => (m ((c.tc : Thread nD τ).loc main_arg3) : FVec Ideal S8192x256 .bf16) (ix2 ⟨t.val / 16 * 2048 + s.val, by omega⟩ ⟨0 * 64 + d.val, by omega⟩)) (fun d s => (m ((c.tc : Thread nD τ).loc main_arg3) : FVec Ideal S8192x256 .bf16) (ix2 ⟨t.val / 16 * 2048 + s.val, by omega⟩ ⟨128 + (0 * 64 + d.val), by omega⟩)) (fun d => (m ((c.tc : Thread nD τ).loc main_arg2) : FVec Ideal S8192x1024 .bf16) (ix2 ⟨t.val / 16 * 2048 + (t.val % 16 * 128 + r.val), by omega⟩ ⟨(0 * 8 + 4) * 64 + d.val, by omega⟩)) ((m ((c.tc : Thread nD τ).loc main_arg8) : FVec Ideal S1x16 .f32) (ix2 0 4)) r x1 ?_ ?_ ?_ ?_ ?_ ?_).trans ?_
    · intro k d; blk_point [iblk, V, idx t]
    · intro k d; blk_point [iblk, V, idx t]
    · intro k; blk_point [iblk, V, idx t]
    · intro k; blk_point [iblk, V, idx t]
    · intro d; blk_point [iblk, V, idx t]
    · exact sink_at m c t _ 4 rfl
    · rw [right_val m' c _ _ _ a2 a3 a8 i j ⟨t.val / 16, by omega⟩ ⟨t.val % 16, by omega⟩ r 0 4 x1 (by show i.val = (t.val / 16 * 16 + t.val % 16) * 128 + r.val; omega) (by show j.val = 1024 + (0 * 8 + 4) * 64 + x1.val; omega)]
      rfl
  case piece12 =>
    change (r : ℕ) = _ at e0
    refine (congrFun (head3 _ _ _ _ _ _ _) x).trans ?_
    obtain ⟨x0, x1, rfl⟩ : ∃ (x0 : Fin 128) (x1 : Fin 64), x = ix2 x0 x1 := ⟨x 0, x 1, by ext a; fin_cases a <;> rfl⟩
    obtain rfl : r = x0 := Fin.ext e0
    change (j : ℕ) = 1216 + (x1 : ℕ) at e1
    rw [(idx t).1]
    refine (headK_at ⟨t.val % 16, by omega⟩ _ _ _ _ _ _ (fun d s => (m ((c.tc : Thread nD τ).loc main_arg3) : FVec Ideal S8192x256 .bf16) (ix2 ⟨t.val / 16 * 2048 + s.val, by omega⟩ ⟨0 * 64 + d.val, by omega⟩)) (fun d s => (m ((c.tc : Thread nD τ).loc main_arg3) : FVec Ideal S8192x256 .bf16) (ix2 ⟨t.val / 16 * 2048 + s.val, by omega⟩ ⟨128 + (0 * 64 + d.val), by omega⟩)) (fun d => (m ((c.tc : Thread nD τ).loc main_arg2) : FVec Ideal S8192x1024 .bf16) (ix2 ⟨t.val / 16 * 2048 + (t.val % 16 * 128 + r.val), by omega⟩ ⟨(0 * 8 + 3) * 64 + d.val, by omega⟩)) ((m ((c.tc : Thread nD τ).loc main_arg8) : FVec Ideal S1x16 .f32) (ix2 0 3)) r x1 ?_ ?_ ?_ ?_ ?_ ?_).trans ?_
    · intro k d; blk_point [iblk, V, idx t]
    · intro k d; blk_point [iblk, V, idx t]
    · intro k; blk_point [iblk, V, idx t]
    · intro k; blk_point [iblk, V, idx t]
    · intro d; blk_point [iblk, V, idx t]
    · exact sink_at m c t _ 3 rfl
    · rw [right_val m' c _ _ _ a2 a3 a8 i j ⟨t.val / 16, by omega⟩ ⟨t.val % 16, by omega⟩ r 0 3 x1 (by show i.val = (t.val / 16 * 16 + t.val % 16) * 128 + r.val; omega) (by show j.val = 1024 + (0 * 8 + 3) * 64 + x1.val; omega)]
      rfl
  case piece13 =>
    change (r : ℕ) = _ at e0
    refine (congrFun (head2 _ _ _ _ _ _ _) x).trans ?_
    obtain ⟨x0, x1, rfl⟩ : ∃ (x0 : Fin 128) (x1 : Fin 64), x = ix2 x0 x1 := ⟨x 0, x 1, by ext a; fin_cases a <;> rfl⟩
    obtain rfl : r = x0 := Fin.ext e0
    change (j : ℕ) = 1152 + (x1 : ℕ) at e1
    rw [(idx t).1]
    refine (headK_at ⟨t.val % 16, by omega⟩ _ _ _ _ _ _ (fun d s => (m ((c.tc : Thread nD τ).loc main_arg3) : FVec Ideal S8192x256 .bf16) (ix2 ⟨t.val / 16 * 2048 + s.val, by omega⟩ ⟨0 * 64 + d.val, by omega⟩)) (fun d s => (m ((c.tc : Thread nD τ).loc main_arg3) : FVec Ideal S8192x256 .bf16) (ix2 ⟨t.val / 16 * 2048 + s.val, by omega⟩ ⟨128 + (0 * 64 + d.val), by omega⟩)) (fun d => (m ((c.tc : Thread nD τ).loc main_arg2) : FVec Ideal S8192x1024 .bf16) (ix2 ⟨t.val / 16 * 2048 + (t.val % 16 * 128 + r.val), by omega⟩ ⟨(0 * 8 + 2) * 64 + d.val, by omega⟩)) ((m ((c.tc : Thread nD τ).loc main_arg8) : FVec Ideal S1x16 .f32) (ix2 0 2)) r x1 ?_ ?_ ?_ ?_ ?_ ?_).trans ?_
    · intro k d; blk_point [iblk, V, idx t]
    · intro k d; blk_point [iblk, V, idx t]
    · intro k; blk_point [iblk, V, idx t]
    · intro k; blk_point [iblk, V, idx t]
    · intro d; blk_point [iblk, V, idx t]
    · exact sink_at m c t _ 2 rfl
    · rw [right_val m' c _ _ _ a2 a3 a8 i j ⟨t.val / 16, by omega⟩ ⟨t.val % 16, by omega⟩ r 0 2 x1 (by show i.val = (t.val / 16 * 16 + t.val % 16) * 128 + r.val; omega) (by show j.val = 1024 + (0 * 8 + 2) * 64 + x1.val; omega)]
      rfl
  case piece14 =>
    change (r : ℕ) = _ at e0
    refine (congrFun (head1 _ _ _ _ _ _ _) x).trans ?_
    obtain ⟨x0, x1, rfl⟩ : ∃ (x0 : Fin 128) (x1 : Fin 64), x = ix2 x0 x1 := ⟨x 0, x 1, by ext a; fin_cases a <;> rfl⟩
    obtain rfl : r = x0 := Fin.ext e0
    change (j : ℕ) = 1088 + (x1 : ℕ) at e1
    rw [(idx t).1]
    refine (headK_at ⟨t.val % 16, by omega⟩ _ _ _ _ _ _ (fun d s => (m ((c.tc : Thread nD τ).loc main_arg3) : FVec Ideal S8192x256 .bf16) (ix2 ⟨t.val / 16 * 2048 + s.val, by omega⟩ ⟨0 * 64 + d.val, by omega⟩)) (fun d s => (m ((c.tc : Thread nD τ).loc main_arg3) : FVec Ideal S8192x256 .bf16) (ix2 ⟨t.val / 16 * 2048 + s.val, by omega⟩ ⟨128 + (0 * 64 + d.val), by omega⟩)) (fun d => (m ((c.tc : Thread nD τ).loc main_arg2) : FVec Ideal S8192x1024 .bf16) (ix2 ⟨t.val / 16 * 2048 + (t.val % 16 * 128 + r.val), by omega⟩ ⟨(0 * 8 + 1) * 64 + d.val, by omega⟩)) ((m ((c.tc : Thread nD τ).loc main_arg8) : FVec Ideal S1x16 .f32) (ix2 0 1)) r x1 ?_ ?_ ?_ ?_ ?_ ?_).trans ?_
    · intro k d; blk_point [iblk, V, idx t]
    · intro k d; blk_point [iblk, V, idx t]
    · intro k; blk_point [iblk, V, idx t]
    · intro k; blk_point [iblk, V, idx t]
    · intro d; blk_point [iblk, V, idx t]
    · exact sink_at m c t _ 1 rfl
    · rw [right_val m' c _ _ _ a2 a3 a8 i j ⟨t.val / 16, by omega⟩ ⟨t.val % 16, by omega⟩ r 0 1 x1 (by show i.val = (t.val / 16 * 16 + t.val % 16) * 128 + r.val; omega) (by show j.val = 1024 + (0 * 8 + 1) * 64 + x1.val; omega)]
      rfl
  case piece15 =>
    change (r : ℕ) = _ at e0
    refine (congrFun (head0 _ _ _ _ _ _ _) x).trans ?_
    obtain ⟨x0, x1, rfl⟩ : ∃ (x0 : Fin 128) (x1 : Fin 64), x = ix2 x0 x1 := ⟨x 0, x 1, by ext a; fin_cases a <;> rfl⟩
    obtain rfl : r = x0 := Fin.ext e0
    change (j : ℕ) = 1024 + (x1 : ℕ) at e1
    rw [(idx t).1]
    refine (headK_at ⟨t.val % 16, by omega⟩ _ _ _ _ _ _ (fun d s => (m ((c.tc : Thread nD τ).loc main_arg3) : FVec Ideal S8192x256 .bf16) (ix2 ⟨t.val / 16 * 2048 + s.val, by omega⟩ ⟨0 * 64 + d.val, by omega⟩)) (fun d s => (m ((c.tc : Thread nD τ).loc main_arg3) : FVec Ideal S8192x256 .bf16) (ix2 ⟨t.val / 16 * 2048 + s.val, by omega⟩ ⟨128 + (0 * 64 + d.val), by omega⟩)) (fun d => (m ((c.tc : Thread nD τ).loc main_arg2) : FVec Ideal S8192x1024 .bf16) (ix2 ⟨t.val / 16 * 2048 + (t.val % 16 * 128 + r.val), by omega⟩ ⟨(0 * 8 + 0) * 64 + d.val, by omega⟩)) ((m ((c.tc : Thread nD τ).loc main_arg8) : FVec Ideal S1x16 .f32) (ix2 0 0)) r x1 ?_ ?_ ?_ ?_ ?_ ?_).trans ?_
    · intro k d; blk_point [iblk, V, idx t]
    · intro k d; blk_point [iblk, V, idx t]
    · intro k; blk_point [iblk, V, idx t]
    · intro k; blk_point [iblk, V, idx t]
    · intro d; blk_point [iblk, V, idx t]
    · exact sink_at m c t _ 0 rfl
    · rw [right_val m' c _ _ _ a2 a3 a8 i j ⟨t.val / 16, by omega⟩ ⟨t.val % 16, by omega⟩ r 0 0 x1 (by show i.val = (t.val / 16 * 16 + t.val % 16) * 128 + r.val; omega) (by show j.val = 1024 + (0 * 8 + 0) * 64 + x1.val; omega)]
      rfl
  case piece16 =>
    change (r : ℕ) = _ at e0
    refine (congrFun (group7 _ _ _ _ _ _) x).trans ?_
    obtain ⟨x0, x1, rfl⟩ : ∃ (x0 x1 : Fin 128), x = ix2 x0 x1 := ⟨x 0, x 1, by ext a; fin_cases a <;> rfl⟩
    obtain rfl : r = x0 := Fin.ext e0
    change (j : ℕ) = 896 + (x1 : ℕ) at e1
    rw [left_val m' c _ _ _ _ _ _ a0 a1 a4 a5 a6 a7 i j ⟨t.val / 16, by omega⟩ ⟨t.val % 16, by omega⟩ r 7 x1 (by show i.val = (t.val / 16 * 16 + t.val % 16) * 128 + r.val; omega) (by show j.val = 7 * 128 + x1.val; omega)]
    refine groupK_val _ _ _ _ _ _ _ _ _ _ _ _ r x1 ?_ ?_ ?_ ?_ ?_ ?_
    · intro s x; blk_point [iblk, V, idx t]
    · exact gain_at m c t _ 7 x1 (by show 896 + 1 * x1.val = 7 * 128 + x1.val; omega)
    · exact shift_at m c t _ 7 x1 (by show 896 + 1 * x1.val = 7 * 128 + x1.val; omega)
    · intro s; exact spat_at m c t _ 7 r s rfl (by show 0 + 1 * r.val = r.val; omega) (by show 0 + 1 * s.val = s.val; omega)
    · exact bias_at m c t _ 7 r x1 (by show 0 + 1 * r.val = r.val; omega) (by show 896 + 1 * x1.val = 7 * 128 + x1.val; omega)
    · blk_point [iblk, V, idx t]
  case piece17 =>
    change (r : ℕ) = _ at e0
    refine (congrFun (group6 _ _ _ _ _ _) x).trans ?_
    obtain ⟨x0, x1, rfl⟩ : ∃ (x0 x1 : Fin 128), x = ix2 x0 x1 := ⟨x 0, x 1, by ext a; fin_cases a <;> rfl⟩
    obtain rfl : r = x0 := Fin.ext e0
    change (j : ℕ) = 768 + (x1 : ℕ) at e1
    rw [left_val m' c _ _ _ _ _ _ a0 a1 a4 a5 a6 a7 i j ⟨t.val / 16, by omega⟩ ⟨t.val % 16, by omega⟩ r 6 x1 (by show i.val = (t.val / 16 * 16 + t.val % 16) * 128 + r.val; omega) (by show j.val = 6 * 128 + x1.val; omega)]
    refine groupK_val _ _ _ _ _ _ _ _ _ _ _ _ r x1 ?_ ?_ ?_ ?_ ?_ ?_
    · intro s x; blk_point [iblk, V, idx t]
    · exact gain_at m c t _ 6 x1 (by show 768 + 1 * x1.val = 6 * 128 + x1.val; omega)
    · exact shift_at m c t _ 6 x1 (by show 768 + 1 * x1.val = 6 * 128 + x1.val; omega)
    · intro s; exact spat_at m c t _ 6 r s rfl (by show 0 + 1 * r.val = r.val; omega) (by show 0 + 1 * s.val = s.val; omega)
    · exact bias_at m c t _ 6 r x1 (by show 0 + 1 * r.val = r.val; omega) (by show 768 + 1 * x1.val = 6 * 128 + x1.val; omega)
    · blk_point [iblk, V, idx t]
  case piece18 =>
    change (r : ℕ) = _ at e0
    refine (congrFun (group5 _ _ _ _ _ _) x).trans ?_
    obtain ⟨x0, x1, rfl⟩ : ∃ (x0 x1 : Fin 128), x = ix2 x0 x1 := ⟨x 0, x 1, by ext a; fin_cases a <;> rfl⟩
    obtain rfl : r = x0 := Fin.ext e0
    change (j : ℕ) = 640 + (x1 : ℕ) at e1
    rw [left_val m' c _ _ _ _ _ _ a0 a1 a4 a5 a6 a7 i j ⟨t.val / 16, by omega⟩ ⟨t.val % 16, by omega⟩ r 5 x1 (by show i.val = (t.val / 16 * 16 + t.val % 16) * 128 + r.val; omega) (by show j.val = 5 * 128 + x1.val; omega)]
    refine groupK_val _ _ _ _ _ _ _ _ _ _ _ _ r x1 ?_ ?_ ?_ ?_ ?_ ?_
    · intro s x; blk_point [iblk, V, idx t]
    · exact gain_at m c t _ 5 x1 (by show 640 + 1 * x1.val = 5 * 128 + x1.val; omega)
    · exact shift_at m c t _ 5 x1 (by show 640 + 1 * x1.val = 5 * 128 + x1.val; omega)
    · intro s; exact spat_at m c t _ 5 r s rfl (by show 0 + 1 * r.val = r.val; omega) (by show 0 + 1 * s.val = s.val; omega)
    · exact bias_at m c t _ 5 r x1 (by show 0 + 1 * r.val = r.val; omega) (by show 640 + 1 * x1.val = 5 * 128 + x1.val; omega)
    · blk_point [iblk, V, idx t]
  case piece19 =>
    change (r : ℕ) = _ at e0
    refine (congrFun (group4 _ _ _ _ _ _) x).trans ?_
    obtain ⟨x0, x1, rfl⟩ : ∃ (x0 x1 : Fin 128), x = ix2 x0 x1 := ⟨x 0, x 1, by ext a; fin_cases a <;> rfl⟩
    obtain rfl : r = x0 := Fin.ext e0
    change (j : ℕ) = 512 + (x1 : ℕ) at e1
    rw [left_val m' c _ _ _ _ _ _ a0 a1 a4 a5 a6 a7 i j ⟨t.val / 16, by omega⟩ ⟨t.val % 16, by omega⟩ r 4 x1 (by show i.val = (t.val / 16 * 16 + t.val % 16) * 128 + r.val; omega) (by show j.val = 4 * 128 + x1.val; omega)]
    refine groupK_val _ _ _ _ _ _ _ _ _ _ _ _ r x1 ?_ ?_ ?_ ?_ ?_ ?_
    · intro s x; blk_point [iblk, V, idx t]
    · exact gain_at m c t _ 4 x1 (by show 512 + 1 * x1.val = 4 * 128 + x1.val; omega)
    · exact shift_at m c t _ 4 x1 (by show 512 + 1 * x1.val = 4 * 128 + x1.val; omega)
    · intro s; exact spat_at m c t _ 4 r s rfl (by show 0 + 1 * r.val = r.val; omega) (by show 0 + 1 * s.val = s.val; omega)
    · exact bias_at m c t _ 4 r x1 (by show 0 + 1 * r.val = r.val; omega) (by show 512 + 1 * x1.val = 4 * 128 + x1.val; omega)
    · blk_point [iblk, V, idx t]
  case piece20 =>
    change (r : ℕ) = _ at e0
    refine (congrFun (group3 _ _ _ _ _ _) x).trans ?_
    obtain ⟨x0, x1, rfl⟩ : ∃ (x0 x1 : Fin 128), x = ix2 x0 x1 := ⟨x 0, x 1, by ext a; fin_cases a <;> rfl⟩
    obtain rfl : r = x0 := Fin.ext e0
    change (j : ℕ) = 384 + (x1 : ℕ) at e1
    rw [left_val m' c _ _ _ _ _ _ a0 a1 a4 a5 a6 a7 i j ⟨t.val / 16, by omega⟩ ⟨t.val % 16, by omega⟩ r 3 x1 (by show i.val = (t.val / 16 * 16 + t.val % 16) * 128 + r.val; omega) (by show j.val = 3 * 128 + x1.val; omega)]
    refine groupK_val _ _ _ _ _ _ _ _ _ _ _ _ r x1 ?_ ?_ ?_ ?_ ?_ ?_
    · intro s x; blk_point [iblk, V, idx t]
    · exact gain_at m c t _ 3 x1 (by show 384 + 1 * x1.val = 3 * 128 + x1.val; omega)
    · exact shift_at m c t _ 3 x1 (by show 384 + 1 * x1.val = 3 * 128 + x1.val; omega)
    · intro s; exact spat_at m c t _ 3 r s rfl (by show 0 + 1 * r.val = r.val; omega) (by show 0 + 1 * s.val = s.val; omega)
    · exact bias_at m c t _ 3 r x1 (by show 0 + 1 * r.val = r.val; omega) (by show 384 + 1 * x1.val = 3 * 128 + x1.val; omega)
    · blk_point [iblk, V, idx t]
  case piece21 =>
    change (r : ℕ) = _ at e0
    refine (congrFun (group2 _ _ _ _ _ _) x).trans ?_
    obtain ⟨x0, x1, rfl⟩ : ∃ (x0 x1 : Fin 128), x = ix2 x0 x1 := ⟨x 0, x 1, by ext a; fin_cases a <;> rfl⟩
    obtain rfl : r = x0 := Fin.ext e0
    change (j : ℕ) = 256 + (x1 : ℕ) at e1
    rw [left_val m' c _ _ _ _ _ _ a0 a1 a4 a5 a6 a7 i j ⟨t.val / 16, by omega⟩ ⟨t.val % 16, by omega⟩ r 2 x1 (by show i.val = (t.val / 16 * 16 + t.val % 16) * 128 + r.val; omega) (by show j.val = 2 * 128 + x1.val; omega)]
    refine groupK_val _ _ _ _ _ _ _ _ _ _ _ _ r x1 ?_ ?_ ?_ ?_ ?_ ?_
    · intro s x; blk_point [iblk, V, idx t]
    · exact gain_at m c t _ 2 x1 (by show 256 + 1 * x1.val = 2 * 128 + x1.val; omega)
    · exact shift_at m c t _ 2 x1 (by show 256 + 1 * x1.val = 2 * 128 + x1.val; omega)
    · intro s; exact spat_at m c t _ 2 r s rfl (by show 0 + 1 * r.val = r.val; omega) (by show 0 + 1 * s.val = s.val; omega)
    · exact bias_at m c t _ 2 r x1 (by show 0 + 1 * r.val = r.val; omega) (by show 256 + 1 * x1.val = 2 * 128 + x1.val; omega)
    · blk_point [iblk, V, idx t]
  case piece22 =>
    change (r : ℕ) = _ at e0
    refine (congrFun (group1 _ _ _ _ _ _) x).trans ?_
    obtain ⟨x0, x1, rfl⟩ : ∃ (x0 x1 : Fin 128), x = ix2 x0 x1 := ⟨x 0, x 1, by ext a; fin_cases a <;> rfl⟩
    obtain rfl : r = x0 := Fin.ext e0
    change (j : ℕ) = 128 + (x1 : ℕ) at e1
    rw [left_val m' c _ _ _ _ _ _ a0 a1 a4 a5 a6 a7 i j ⟨t.val / 16, by omega⟩ ⟨t.val % 16, by omega⟩ r 1 x1 (by show i.val = (t.val / 16 * 16 + t.val % 16) * 128 + r.val; omega) (by show j.val = 1 * 128 + x1.val; omega)]
    refine groupK_val _ _ _ _ _ _ _ _ _ _ _ _ r x1 ?_ ?_ ?_ ?_ ?_ ?_
    · intro s x; blk_point [iblk, V, idx t]
    · exact gain_at m c t _ 1 x1 (by show 128 + 1 * x1.val = 1 * 128 + x1.val; omega)
    · exact shift_at m c t _ 1 x1 (by show 128 + 1 * x1.val = 1 * 128 + x1.val; omega)
    · intro s; exact spat_at m c t _ 1 r s rfl (by show 0 + 1 * r.val = r.val; omega) (by show 0 + 1 * s.val = s.val; omega)
    · exact bias_at m c t _ 1 r x1 (by show 0 + 1 * r.val = r.val; omega) (by show 128 + 1 * x1.val = 1 * 128 + x1.val; omega)
    · blk_point [iblk, V, idx t]
  case piece23 =>
    change (r : ℕ) = _ at e0
    show groupK _ _ _ _ _ _ x = _
    obtain ⟨x0, x1, rfl⟩ : ∃ (x0 x1 : Fin 128), x = ix2 x0 x1 := ⟨x 0, x 1, by ext a; fin_cases a <;> rfl⟩
    obtain rfl : r = x0 := Fin.ext e0
    change (j : ℕ) = (x1 : ℕ) at e1
    rw [left_val m' c _ _ _ _ _ _ a0 a1 a4 a5 a6 a7 i j ⟨t.val / 16, by omega⟩ ⟨t.val % 16, by omega⟩ r 0 x1 (by show i.val = (t.val / 16 * 16 + t.val % 16) * 128 + r.val; omega) (by show j.val = 0 * 128 + x1.val; omega)]
    refine groupK_val _ _ _ _ _ _ _ _ _ _ _ _ r x1 ?_ ?_ ?_ ?_ ?_ ?_
    · intro s x; blk_point [iblk, V, idx t]
    · exact gain_at m c t _ 0 x1 (by show 0 + 1 * x1.val = 0 * 128 + x1.val; omega)
    · exact shift_at m c t _ 0 x1 (by show 0 + 1 * x1.val = 0 * 128 + x1.val; omega)
    · intro s; exact spat_at m c t _ 0 r s rfl (by show 0 + 1 * r.val = r.val; omega) (by show 0 + 1 * s.val = s.val; omega)
    · exact bias_at m c t _ 0 r x1 (by show 0 + 1 * r.val = r.val; omega) (by show 0 + 1 * x1.val = 0 * 128 + x1.val; omega)
    · blk_point [iblk, V, idx t]

set_option maxHeartbeats 4000000 in
theorem algebraic : Cert.algebraic_KernelIdeal_ReferenceIdeal := by
  pair_intro
  · run_from Cert.KernelIdeal.Gen.run_main m g
  · run_from Cert.ReferenceIdeal.Own.run m' g'
    · symm
      refine (Cert.KernelIdeal.Gen.dats m 0 c).arrAt_eq_of_covers 12 _ (by decide +kernel) fun t _ y => ?_
      blk_simp
      idx_vars y
      have ht : t.val < 64 := lt_of_lt_of_eq t.isLt N_0
      refine Eq.trans ?_ (Cert.OutRefIdeal.Own.at2 _ _ ⟨t.val * 128 + y0.val, by omega⟩ y1 (by blk_simp [idx t] <;> dsimp only <;> omega) (by blk_simp [idx t] <;> dsimp only <;> omega)).symm
      exact after12_at m m' c (hagree c) t y0 y1 _ rfl
    · symm
      refine (Cert.KernelIdeal.Gen.dats m 0 c).arrAt_eq_of_covers 13 _ (by decide +kernel) fun t _ y => ?_
      blk_simp
      rw [after0_13]
      unfold Gen.outsAt0
      frame_out
      idx_vars y
      have ht : t.val < 64 := lt_of_lt_of_eq t.isLt N_0
      refine Eq.trans ?_ (Cert.OutRefIdeal.Own.at2 _ _ ⟨t.val * 32 + y0.val, by omega⟩ y1 (by blk_simp [idx t] <;> dsimp only <;> omega) (by blk_simp [idx t] <;> dsimp only <;> omega)).symm
      unfold Cert.ReferenceIdeal.Own.v_woR
      rw [pay2_at, Cert.ReferenceIdeal.Own.woR_at, (hagree c).2.2.2.2.2.2.2.2.2.1]
      blk_point [iblk, V, idx t]
    · symm
      refine (Cert.KernelIdeal.Gen.dats m 0 c).arrAt_eq_of_covers 14 _ (by decide +kernel) fun t _ y => ?_
      blk_simp
      rw [after0_14]
      unfold Gen.outsAt0
      frame_out
      idx_vars y
      have ht : t.val < 64 := lt_of_lt_of_eq t.isLt N_0
      refine Eq.trans ?_ (Cert.OutRefIdeal.Own.at2 _ _ ⟨t.val * 32 + y0.val, by omega⟩ y1 (by blk_simp [idx t] <;> dsimp only <;> omega) (by blk_simp [idx t] <;> dsimp only <;> omega)).symm
      unfold Cert.ReferenceIdeal.Own.v_wqR
      rw [pay3_at, Cert.ReferenceIdeal.Own.wqR_at, (hagree c).2.2.2.2.2.2.2.2.2.2]
      blk_point [iblk, V, idx t]
end Cert.KernelIdeal.Own
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutRefIdeal
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalRefIdeal
public import proofs.«01_k».proof.Proof.Gen.KernelIdeal.Value
public import proofs.«01_k».proof.Proof.Gen.InProjIdeal.Value
public import proofs.«01_k».proof.Proof.Gen.OutProjIdeal.Value
public import proofs.«01_k».proof.Proof.Gen.FinalIdeal.Value
public import proofs.«01_k».proof.Proof.Gen.InRefIdeal.Run
public import proofs.«01_k».proof.Proof.Gen.OutRefIdeal.Run
public import proofs.«01_k».proof.Proof.Gen.FinalRefIdeal.Run
public import Idealize.ShloMosaic.Lib.Claim
public import Idealize.ShloMosaic.Lib.Quiescent
public import proofs.«01_k».proof.Proof.Own.FinalValue
public import proofs.«01_k».proof.Proof.Own.InValue
public import proofs.«01_k».proof.Proof.Own.OutValue
public import proofs.«01_k».proof.Proof.Own.MixValue
public import Idealize.ShloMosaic.Adequacy
public import Idealize.ShloMosaic.Init

@[expose] public section

noncomputable section

namespace Cert.Proof

open Idealize.ShloMosaic Idealize.SL.Sem Cert.Kernel

theorem frame_ReferenceIdeal : Cert.quiescent_ReferenceIdeal := by
  intro m ρ _
  run_from Cert.ReferenceIdeal.Own.run m ρ
  · simp
  · refine sem_eq_zero_of_no_sems ?_ _
    decide

theorem frame_InRefIdeal : Cert.quiescent_InRefIdeal := by
  intro m ρ _
  run_from Cert.InRefIdeal.Value.run m ρ
  · simp
  · refine sem_eq_zero_of_no_sems ?_ _
    decide

theorem frame_OutRefIdeal : Cert.quiescent_OutRefIdeal := by
  intro m ρ _
  run_from Cert.OutRefIdeal.Value.run m ρ
  · simp
  · refine sem_eq_zero_of_no_sems ?_ _
    decide

theorem frame_FinalRefIdeal : Cert.quiescent_FinalRefIdeal := by
  intro m ρ _
  run_from Cert.FinalRefIdeal.Value.run m ρ
  · simp
  · refine sem_eq_zero_of_no_sems ?_ _
    decide

theorem claim : Cert.Claim := ⟨Cert.Kernel.Gen.facts, Cert.KernelIdeal.Gen.facts, Cert.ReferenceIdeal.Gen.facts, Cert.InProj.Gen.facts, Cert.InProjIdeal.Gen.facts, Cert.InRefIdeal.Gen.facts, Cert.OutProj.Gen.facts, Cert.OutProjIdeal.Gen.facts, Cert.OutRefIdeal.Gen.facts, Cert.Final.Gen.facts, Cert.FinalIdeal.Gen.facts, Cert.FinalRefIdeal.Gen.facts,
  fun m ρ _ => Cert.Kernel.Gen.frame m ρ,
  fun m ρ _ => Cert.KernelIdeal.Gen.frame m ρ,
  frame_ReferenceIdeal,
  fun m ρ _ => Cert.InProj.Gen.frame m ρ,
  fun m ρ _ => Cert.InProjIdeal.Gen.frame m ρ,
  frame_InRefIdeal,
  fun m ρ _ => Cert.OutProj.Gen.frame m ρ,
  fun m ρ _ => Cert.OutProjIdeal.Gen.frame m ρ,
  frame_OutRefIdeal,
  fun m ρ _ => Cert.Final.Gen.frame m ρ,
  fun m ρ _ => Cert.FinalIdeal.Gen.frame m ρ,
  frame_FinalRefIdeal,
  trivial,
  Cert.KernelIdeal.Own.algebraic,
  trivial,
  Cert.InProjIdeal.Own.algebraic,
  trivial,
  Cert.OutProjIdeal.Own.algebraic,
  trivial,
  Cert.FinalIdeal.Own.algebraic⟩

end Cert.Proof

end
